-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S3x3x96x256 : Shape := ⟨4, ![3, 3, 96, 256]⟩
abbrev S4 : Shape := ⟨1, ![4]⟩
abbrev S3x3 : Shape := ⟨2, ![3, 3]⟩
abbrev S1 : Shape := ⟨1, ![1]⟩
abbrev S_ : Shape := ⟨0, ![]⟩
abbrev S96x256 : Shape := ⟨2, ![96, 256]⟩
abbrev S1x1x96x256 : Shape := ⟨4, ![1, 1, 96, 256]⟩
abbrev S1x1 : Shape := ⟨2, ![1, 1]⟩
abbrev S80x256 : Shape := ⟨2, ![80, 256]⟩
abbrev S1x1x80x256 : Shape := ⟨4, ![1, 1, 80, 256]⟩

abbrev nBuf : Space → Nat
  | .hbm => 5
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x512, .f32⟩
  | .hbm, ⟨2, _⟩ => ⟨S256x512, .f32⟩
  | .hbm, ⟨3, _⟩ => ⟨S512x256, .f32⟩
  | .hbm, ⟨4, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x512, .f32⟩
  | .local _ .vmem, ⟨3, _⟩ => ⟨S256x512, .f32⟩
  | .local _ .vmem, ⟨4, _⟩ => ⟨S512x256, .f32⟩
  | .local _ .vmem, ⟨5, _⟩ => ⟨S3x3x96x256, .bf16⟩
  | .local _ .vmem, ⟨6, _⟩ => ⟨S3x3x96x256, .bf16⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_4 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v12 : BitVec 32 := Scalar.xori v2 c1_i32_1
  let c1_i32_3 : BitVec 32 := 1#32
  let v13 : BitVec 32 := Scalar.muli v12 c1_i32_3
  let v14 : BitVec 32 := Scalar.addi c0_i32_4 v13
  v14.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_5 : BitVec 32 := 3#32
  let v15 : BitVec 32 := Scalar.xori v2 c3_i32_5
  let c1_i32_7 : BitVec 32 := 1#32
  let v16 : BitVec 32 := Scalar.muli v15 c1_i32_7
  let v17 : BitVec 32 := Scalar.addi c0_i32_8 v16
  v17.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v18 : BitVec 32 := Scalar.xori v2 c4_i32
  let c1_i32_10 : BitVec 32 := 1#32
  let v19 : BitVec 32 := Scalar.muli v18 c1_i32_10
  let v20 : BitVec 32 := Scalar.addi c0_i32_11 v19
  v20.toNat
def k0_dev4 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_34 : BitVec 32 := 1#32
  let v46 : BitVec 32 := Scalar.xori v2 c1_i32_34
  let c1_i32_43 : BitVec 32 := 1#32
  let v47 : BitVec 32 := Scalar.muli v46 c1_i32_43
  let v48 : BitVec 32 := Scalar.addi c0_i32_44 v47
  v48.toNat
def k0_dev5 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_53 : BitVec 32 := 3#32
  let v63 : BitVec 32 := Scalar.xori v2 c3_i32_53
  let c1_i32_62 : BitVec 32 := 1#32
  let v64 : BitVec 32 := Scalar.muli v63 c1_i32_62
  let v65 : BitVec 32 := Scalar.addi c0_i32_63 v64
  v65.toNat
def k0_dev6 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_72 : BitVec 32 := 4#32
  let v80 : BitVec 32 := Scalar.xori v2 c4_i32_72
  let c1_i32_81 : BitVec 32 := 1#32
  let v81 : BitVec 32 := Scalar.muli v80 c1_i32_81
  let v82 : BitVec 32 := Scalar.addi c0_i32_82 v81
  v82.toNat
def k0_dev7 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_126 : BitVec 32 := 3#32
  let v116 : BitVec 32 := Scalar.xori v2 c3_i32_126
  let c1_i32_135 : BitVec 32 := 1#32
  let v117 : BitVec 32 := Scalar.muli v116 c1_i32_135
  let v118 : BitVec 32 := Scalar.addi c0_i32_136 v117
  v118.toNat
def k0_dev8 (d0 : Dev nD) : Nat :=
  let c0_i32_190 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_180 : BitVec 32 := 4#32
  let v152 : BitVec 32 := Scalar.xori v2 c4_i32_180
  let c1_i32_189 : BitVec 32 := 1#32
  let v153 : BitVec 32 := Scalar.muli v152 c1_i32_189
  let v154 : BitVec 32 := Scalar.addi c0_i32_190 v153
  v154.toNat
def k0_dev9 (d0 : Dev nD) : Nat :=
  let c0_i32_244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_234 : BitVec 32 := 1#32
  let v188 : BitVec 32 := Scalar.xori v2 c1_i32_234
  let c1_i32_243 : BitVec 32 := 1#32
  let v189 : BitVec 32 := Scalar.muli v188 c1_i32_243
  let v190 : BitVec 32 := Scalar.addi c0_i32_244 v189
  v190.toNat
def k0_dev10 (d0 : Dev nD) : Nat :=
  let c0_i32_298 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_288 : BitVec 32 := 4#32
  let v224 : BitVec 32 := Scalar.xori v2 c4_i32_288
  let c1_i32_297 : BitVec 32 := 1#32
  let v225 : BitVec 32 := Scalar.muli v224 c1_i32_297
  let v226 : BitVec 32 := Scalar.addi c0_i32_298 v225
  v226.toNat
def k0_dev11 (d0 : Dev nD) : Nat :=
  let c0_i32_352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_342 : BitVec 32 := 1#32
  let v260 : BitVec 32 := Scalar.xori v2 c1_i32_342
  let c1_i32_351 : BitVec 32 := 1#32
  let v261 : BitVec 32 := Scalar.muli v260 c1_i32_351
  let v262 : BitVec 32 := Scalar.addi c0_i32_352 v261
  v262.toNat
def k0_dev12 (d0 : Dev nD) : Nat :=
  let c0_i32_406 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_396 : BitVec 32 := 3#32
  let v296 : BitVec 32 := Scalar.xori v2 c3_i32_396
  let c1_i32_405 : BitVec 32 := 1#32
  let v297 : BitVec 32 := Scalar.muli v296 c1_i32_405
  let v298 : BitVec 32 := Scalar.addi c0_i32_406 v297
  v298.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S256x256 : Shape := ⟨2, ![256, 256]⟩
abbrev S256x4096 : Shape := ⟨2, ![256, 4096]⟩
abbrev S4096x256 : Shape := ⟨2, ![4096, 256]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x4096, .f32⟩
  | .hbm, ⟨2, _⟩ => ⟨S256x4096, .f32⟩
  | .hbm, ⟨3, _⟩ => ⟨S4096x256, .f32⟩
  | .hbm, ⟨4, _⟩ => ⟨S256x4096, .f32⟩
  | .hbm, ⟨5, _⟩ => ⟨S256x4096, .f32⟩
  | .hbm, ⟨6, _⟩ => ⟨S256x4096, .f32⟩
  | .hbm, ⟨7, _⟩ => ⟨S256x4096, .f32⟩
  | .hbm, ⟨8, _⟩ => ⟨S_, .f32⟩
  | .hbm, ⟨9, _⟩ => ⟨S256x4096, .f32⟩
  | .hbm, ⟨10, _⟩ => ⟨S256x4096, .f32⟩
  | .hbm, ⟨11, _⟩ => ⟨S256x4096, .f32⟩
  | .hbm, ⟨12, _⟩ => ⟨S256x4096, .f32⟩
  | .hbm, ⟨13, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Proof.Slots.lean ====
/-
The geometry of the exchange: which device talks to which, and where in the buffers.

Eight devices are joined as the corners of a cube. The result's 256 rows are cut in three STREAMS of 96, 80 and 80
rows; a stream takes three STEPS, and at each step a device swaps its running sum with one partner. A SLOT is a
stream and a step: the transfer buffers hold one block of rows per slot, and each slot has a send and a receive
semaphore of its own. This file names these things; nothing here speaks of a program's run.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.ReshapeSlab
public import Idealize.ShloMosaic.Lib.Tactic

@[expose] public section

noncomputable section

namespace Cert.Butterfly

open Cert.KernelIdeal Cert.KernelIdeal.Gen
open Idealize.ShloMosaic Idealize.ShloMosaic.TcCoe Idealize.SL.Sem

/-! ## Partners -/

/-- The three directions of an exchange, as the bits in which the partners' numbers differ. -/
def mask : Fin 3 → ℕ := ![1, 3, 4]

set_option backward.proofsInPublic true in
/-- The partner of device `c` in direction `j`. -/
def peer (j : Fin 3) (c : Dev nD) : Dev nD := ⟨(c.val ^^^ mask j) % 8, Nat.mod_lt _ (by decide)⟩

theorem peer_peer (j : Fin 3) (c : Dev nD) : peer j (peer j c) = c := by revert j c; decide

/-- Being partners in a direction is a permutation of the devices. -/
def swap (j : Fin 3) : Dev nD ≃ Dev nD := ⟨peer j, peer j, peer_peer j, peer_peer j⟩

theorem peer_eq_iff {j : Fin 3} {c d : Dev nD} : peer j c = d ↔ c = peer j d :=
  ⟨fun h => by rw [← h, peer_peer], fun h => by rw [h, peer_peer]⟩

/-! ## Slots -/

/-- A stream and a step of it. -/
abbrev Slot : Type := Fin 3 × Fin 3

/-- The direction in which a slot's block travels: at every step the three streams take three different ones. -/
def dir (x : Slot) : Fin 3 := x.1 + x.2

/-- How many rows a stream has, and its first row. -/
def rowsOf : Fin 3 → ℕ := ![96, 80, 80]
def rowAt : Fin 3 → ℕ := ![0, 96, 176]

/-- The shape of a stream's rows, and of a slot in the transfer buffers. -/
abbrev chunkSh (s : Fin 3) : Shape := ⟨2, ![rowsOf s, 256]⟩
abbrev slotSh (s : Fin 3) : Shape := ⟨4, ![1, 1, rowsOf s, 256]⟩

theorem slot_inb (x : Slot) : ∀ a, (![x.1.val, x.2.val, 0, 0] : Fin 4 → ℕ) a + (slotSh x.1).size a ≤ S3x3x96x256.size a := by
  revert x; decide

theorem chunk_inb (s : Fin 3) : ∀ a, (![rowAt s, 0] : Fin 2 → ℕ) a + (chunkSh s).size a ≤ S256x256.size a := by
  revert s; decide

/-- A slot's place in a transfer buffer; a stream's place in the result. -/
abbrev slotRect (x : Slot) : Rect S3x3x96x256 :=
  Rect.unit (s := S3x3x96x256) ![x.1.val, x.2.val, 0, 0] (slotSh x.1).size (slot_inb x)
abbrev chunkRect (s : Fin 3) : Rect S256x256 := Rect.unit (s := S256x256) ![rowAt s, 0] (chunkSh s).size (chunk_inb s)

theorem slot_squeezes (s : Fin 3) : (slotSh s).Squeezes (chunkSh s) := by revert s; decide

/-- The transfer buffers — blocks about to leave, blocks that arrived — and the result's staging buffer. -/
abbrev stB : Memref sig .tc .vmem S3x3x96x256 .bf16 := Memref.whole cc0_scratch4
abbrev cmB : Memref sig .tc .vmem S3x3x96x256 .bf16 := Memref.whole cc0_scratch5
abbrev outB : Memref sig .tc .vmem S256x256 .f32 := Memref.whole cc0_stg0_0

/-- A slot of a transfer buffer as the block of rows a transfer names. -/
abbrev stM (x : Slot) : Memref sig .tc .vmem (chunkSh x.1) .bf16 :=
  (stB.slice (slotRect x) (fun _ => rfl)).squeeze (chunkSh x.1) (slot_squeezes x.1)
abbrev cmM (x : Slot) : Memref sig .tc .vmem (chunkSh x.1) .bf16 :=
  (cmB.slice (slotRect x) (fun _ => rfl)).squeeze (chunkSh x.1) (slot_squeezes x.1)

theorem slotRect_disjoint {x y : Slot} (h : x ≠ y) : Disjoint (slotRect x).set (slotRect y).set := by
  by_cases h1 : x.1 = y.1
  · have h2 : x.2.val ≠ y.2.val := fun e => h (Prod.ext h1 (Fin.ext e))
    exact Rect.disjoint_of_separated _ _ (1 : Fin 4) (by
      rcases Nat.lt_or_gt_of_ne h2 with e | e
      · left; right; exact e
      · right; right; exact e)
  · have h2 : x.1.val ≠ y.1.val := fun e => h1 (Fin.ext e)
    exact Rect.disjoint_of_separated _ _ (0 : Fin 4) (by
      rcases Nat.lt_or_gt_of_ne h2 with e | e
      · left; right; exact e
      · right; right; exact e)

theorem chunkRect_disjoint {s t : Fin 3} (h : s ≠ t) : Disjoint (chunkRect s).set (chunkRect t).set := by
  refine Rect.disjoint_of_separated _ _ (0 : Fin 2) ?_
  show (rowsOf s = 0 ∨ rowAt s + 1 * (rowsOf s - 1) < rowAt t) ∨ (rowsOf t = 0 ∨ rowAt t + 1 * (rowsOf t - 1) < rowAt s)
  revert s t; decide

/-- The stream a row of the result belongs to. -/
def streamOf (n : ℕ) : Fin 3 := if n < 96 then 0 else if n < 176 then 1 else 2

theorem streamOf_spec {n : ℕ} (h : n < 256) : rowAt (streamOf n) ≤ n ∧ n < rowAt (streamOf n) + rowsOf (streamOf n) := by
  unfold streamOf
  split
  · exact ⟨Nat.zero_le _, by show n < 0 + 96; omega⟩
  split
  · exact ⟨by show 96 ≤ n; omega, by show n < 96 + 80; omega⟩
  · exact ⟨by show 176 ≤ n; omega, by show n < 176 + 80; omega⟩

/-! ## Semaphores -/

theorem sem_inb (x : Slot) : ∀ a, (![x.1.val, x.2.val] : Fin 2 → ℕ) a + S1x1.size a ≤ S3x3.size a := by revert x; decide

/-- The send and the receive semaphore of a slot. -/
abbrev sendS (x : Slot) : DmaSem sig :=
  ((cc0_scratch7.slice (Rect.unit (s := S3x3) ![x.1.val, x.2.val] S1x1.size (sem_inb x))).squeeze S_ squeezes_S1x1_S_).sem
abbrev recvS (x : Slot) : DmaSem sig :=
  ((cc0_scratch8.slice (Rect.unit (s := S3x3) ![x.1.val, x.2.val] S1x1.size (sem_inb x))).squeeze S_ squeezes_S1x1_S_).sem

/-- The semaphore every device of the mesh has for meeting its partners before the first transfer. -/
abbrev barS : Sem sig := (SemArray.scalar (sig.barrier 0 rfl) : Sems sig S_).sem

theorem sendS_val (x : Slot) : (sendS x).val = 5 + (3 * x.1.val + x.2.val) := by revert x; decide +kernel
theorem recvS_val (x : Slot) : (recvS x).val = 14 + (3 * x.1.val + x.2.val) := by revert x; decide +kernel

/-- The slot with a given number, the streams' slots counted one stream after the other. -/
def slotNo (n : ℕ) : Slot := (⟨n / 3 % 3, Nat.mod_lt _ (by decide)⟩, ⟨n % 3, Nat.mod_lt _ (by decide)⟩)

theorem slotNo_eq (x : Slot) : slotNo (3 * x.1.val + x.2.val) = x := by revert x; decide

/-! ## The devices the program computes -/

theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer (dir (0, 0)) c := by revert c; decide +kernel
theorem dev5_eq (c : Dev nD) : (⟨k0_dev5 c, k0_dev5_lt c⟩ : Dev nD) = peer (dir (1, 0)) c := by revert c; decide +kernel
theorem dev6_eq (c : Dev nD) : (⟨k0_dev6 c, k0_dev6_lt c⟩ : Dev nD) = peer (dir (2, 0)) c := by revert c; decide +kernel
theorem dev7_eq (c : Dev nD) : (⟨k0_dev7 c, k0_dev7_lt c⟩ : Dev nD) = peer (dir (0, 1)) c := by revert c; decide +kernel
theorem dev8_eq (c : Dev nD) : (⟨k0_dev8 c, k0_dev8_lt c⟩ : Dev nD) = peer (dir (1, 1)) c := by revert c; decide +kernel
theorem dev9_eq (c : Dev nD) : (⟨k0_dev9 c, k0_dev9_lt c⟩ : Dev nD) = peer (dir (2, 1)) c := by revert c; decide +kernel
theorem dev10_eq (c : Dev nD) : (⟨k0_dev10 c, k0_dev10_lt c⟩ : Dev nD) = peer (dir (0, 2)) c := by revert c; decide +kernel
theorem dev11_eq (c : Dev nD) : (⟨k0_dev11 c, k0_dev11_lt c⟩ : Dev nD) = peer (dir (1, 2)) c := by revert c; decide +kernel
theorem dev12_eq (c : Dev nD) : (⟨k0_dev12 c, k0_dev12_lt c⟩ : Dev nD) = peer (dir (2, 2)) c := by revert c; decide +kernel

end Cert.Butterfly

end
-- ==== Proof.Contents.lean ====
/-
What every buffer holds, as functions of the launch's memory.

A device first computes its own partial product. Then, stream by stream and step by step, it sends its running sum
rounded to half width and adds the rounded sum its partner sent. These recursions name the two sequences — the
running sum and the block sent — in the program's own operations, for any float values.
-/
module

public import proofs.«01_k».proof.Proof.Slots
public import Idealize.ShloMosaic.Lib.Pipeline.Value

@[expose] public section

noncomputable section

namespace Cert.Butterfly

open Cert.KernelIdeal Cert.KernelIdeal.Gen
open Idealize.ShloMosaic Idealize.ShloMosaic.TcCoe Idealize.SL.Sem

variable {F : FTy → Type} [FloatOps F]

/-- A stream's running sum rounded, laid out as a slot of a transfer buffer. -/
def pack : (s : Fin 3) → Vec F (chunkSh s) .f32 → Vec F (slotSh s) .bf16
  | 0 => k0_pay3
  | 1 => k0_pay4
  | 2 => fun a => k0_pay6 (k0_pay5 a)

/-- A stream's running sum with an arrived block added. -/
def merge : (s : Fin 3) → Vec F (chunkSh s) .f32 → Vec F (slotSh s) .bf16 → Vec F (chunkSh s) .f32
  | 0 => k0_pay7
  | 1 => fun a u => k0_pay11 (k0_pay9 a) (k0_pay10 u)
  | 2 => k0_pay13

/-- A stream's rows of a 256-by-256 array. -/
def rowsIn (s : Fin 3) (f : Vec F S256x256 .f32) : Vec F (chunkSh s) .f32 := fun j => f ((chunkRect s).emb j)

variable (m : (ℓ : Loc nD τ sig) → Buf (Elt F) ℓ)

/-- Device `c`'s own partial product. -/
def part0 (c : Dev nD) : Vec F S256x256 .f32 :=
  k0_pay2 (m ((c : Thread nD τ).loc main_arg0)) (m ((c : Thread nD τ).loc main_arg1)) (m ((c : Thread nD τ).loc main_arg2))
    (m ((c : Thread nD τ).loc main_arg3))

/-- Device `c`'s running sum of stream `s` before step `r`. -/
def acc (s : Fin 3) : ℕ → Dev nD → Vec F (chunkSh s) .f32
  | 0, c => rowsIn s (part0 m c)
  | r + 1, c => merge s (acc s r c) (pack s (acc s r (peer (dir (s, Fin.ofNat 3 r)) c)))

/-- The block device `c` sends through slot `x`. -/
def sent (x : Slot) (c : Dev nD) : Vec F (slotSh x.1) .bf16 := pack x.1 (acc m x.1 x.2.val c)

theorem acc_succ (x : Slot) (c : Dev nD) :
    acc m x.1 (x.2.val + 1) c = merge x.1 (acc m x.1 x.2.val c) (sent m x (peer (dir x) c)) := by
  obtain ⟨s, r⟩ := x
  show merge s (acc m s r.val c) (pack s (acc m s r.val (peer (dir (s, Fin.ofNat 3 r.val)) c))) = _
  rw [show Fin.ofNat 3 r.val = r from Fin.ext (Nat.mod_eq_of_lt r.isLt)]
  rfl

/-- A row's place within its stream. -/
def posIn (i : S256x256.Idx) : (chunkSh (streamOf (i 0).val)).Idx := fun a => match a with
  | 0 => (⟨(i 0).val - rowAt (streamOf (i 0).val), by have := streamOf_spec (i 0).isLt; omega⟩ : Fin (rowsOf (streamOf (i 0).val)))
  | 1 => (⟨(i 1).val, (i 1).isLt⟩ : Fin 256)

/-- The result on device `c`: each row from its stream's last running sum. -/
def result (c : Dev nD) : Vec F S256x256 .f32 := fun i => acc m (streamOf (i 0).val) 3 c (posIn i)

theorem streamOf_emb (s : Fin 3) (n : ℕ) (h : n < rowsOf s) : streamOf (rowAt s + n) = s := by
  have key : ∀ s : Fin 3, ∀ n : Fin (rowsOf s), streamOf (rowAt s + n.val) = s := by decide +kernel
  exact key s ⟨n, h⟩

theorem emb_posIn (i : S256x256.Idx) : (chunkRect (streamOf (i 0).val)).emb (posIn i) = i := by
  have h := streamOf_spec (i 0).isLt
  funext a
  refine Fin.ext ?_
  match a with
  | 0 => show rowAt (streamOf (i 0).val) + 1 * ((i 0).val - rowAt (streamOf (i 0).val)) = (i 0).val; omega
  | 1 => show 0 + 1 * (i 1).val = (i 1).val; omega

/-- The result's rows of stream `s` are that stream's last running sum. -/
theorem result_emb (c : Dev nD) (s : Fin 3) (j : (chunkSh s).Idx) : result m c ((chunkRect s).emb j) = acc m s 3 c j := by
  generalize hi : (chunkRect s).emb j = i
  have hs : s = streamOf (i 0).val := by
    rw [← hi]
    show s = streamOf (rowAt s + 1 * (j 0).val)
    rw [Nat.one_mul]
    exact (streamOf_emb s _ (j 0).isLt).symm
  subst hs
  have hj : j = posIn i := (chunkRect _).emb.injective (hi.trans (emb_posIn i).symm)
  rw [hj]; rfl

/-! The program builds a block in one place in one operation and in another in two, and re-states a shape the values
already have; the block is the same. -/

theorem pack_of_merge0 (a : Vec F (chunkSh 0) .f32) (u : Vec F (slotSh 0) .bf16) : k0_pay8 a u = pack 0 (merge 0 a u) := by
  unfold pack merge k0_pay8 k0_pay3; simp only [shapeCast_self]
theorem pack_of_merge1 (a : Vec F (chunkSh 1) .f32) (u : Vec F (slotSh 1) .bf16) :
    k0_pay12 (k0_pay9 a) (k0_pay10 u) = pack 1 (merge 1 a u) := by
  unfold pack merge k0_pay12 k0_pay4; simp only [shapeCast_self]
theorem pack_of_merge2 (a : Vec F (chunkSh 2) .f32) (u : Vec F (slotSh 2) .bf16) : k0_pay14 a u = pack 2 (merge 2 a u) := by
  unfold pack merge k0_pay14 k0_pay6 k0_pay5; simp only [shapeCast_self]

end Cert.Butterfly

end
-- ==== Proof.Schedule.lean ====
/-
The agreement between the devices, stated for the rounds library: who raises which semaphore, by how much, and what
is handed over with it.

Every semaphore of the exchange is used for one round. A device's MEETING semaphore is raised once by each of its
three partners; with the raise a partner hands over the three slots of its own arrival buffer into which the device is
going to write. A slot's SEND semaphore is raised when its block has left, returning the slot of the departure
buffer; its RECEIVE semaphore when the partner's block has arrived, handing over the slot of the arrival buffer with
the block in it.
-/
module

public import proofs.«01_k».proof.Proof.Contents
public import Idealize.ShloMosaic.Lib.Pipeline.Launch
public import Idealize.ShloMosaic.Lib.Pipeline.Kit
public import Idealize.ShloMosaic.Lib.Transfers

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ## Resources: the pipeline library's, the rounds' (duties named by a direction), the local copies' -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

/-- Device `c` holds the rectangle `r` of the buffer `B`, and finds `u` in it. -/
def piece (c : Dev nD) {sh : Shape} {e : EltTy} (B : Memref sig .tc .vmem sh e) (r : Rect sh) (u : r.shape.Idx → Elt F e) : sProp 𝕄 :=
  iprop(∃ f, ⌜(B.access r).read (Elt F) f = u⌝ ∗ ((B.access r).loc (c : Thread nD τ) ↦[(B.access r).set]{fullShare} f))

/-- The same, whatever is in it. -/
def room (c : Dev nD) {sh : Shape} {e : EltTy} (B : Memref sig .tc .vmem sh e) (r : Rect sh) : sProp 𝕄 :=
  iprop(∃ f, ((B.access r).loc (c : Thread nD τ) ↦[(B.access r).set]{fullShare} f))

omit [FloatOps F] in
theorem piece_room (c : Dev nD) {sh : Shape} {e : EltTy} (B : Memref sig .tc .vmem sh e) (r : Rect sh) (u : r.shape.Idx → Elt F e) :
    piece c B r u ⊢ room c B r := by
  unfold piece room
  iintro ⟨%f, -, H⟩; iexists f; iexact H

omit [FloatOps F] in
instance piece_storable (c : Dev nD) {sh : Shape} {e : EltTy} (B : Memref sig .tc .vmem sh e) (r : Rect sh) (u : r.shape.Idx → Elt F e) :
    BI.Storable (upEmb : UEmb _ 𝕄) (piece c B r u) := by unfold piece; infer_instance
omit [FloatOps F] in
instance room_storable (c : Dev nD) {sh : Shape} {e : EltTy} (B : Memref sig .tc .vmem sh e) (r : Rect sh) :
    BI.Storable (upEmb : UEmb _ 𝕄) (room (F := F) c B r) := by unfold room; infer_instance

/-! ## Cells -/

abbrev barCell (c : Dev nD) : GSem nD τ sig := ((c : Thread nD τ), .reg barS)
abbrev sendCell (c : Dev nD) (x : Slot) : GSem nD τ sig := ((c : Thread nD τ), .dma (sendS x))
abbrev recvCell (c : Dev nD) (x : Slot) : GSem nD τ sig := ((c : Thread nD τ), .dma (recvS x))

/-- What a slot's transfer counts for on its two semaphores. -/
abbrev amt (x : Slot) : ℕ := (cmM x).view.dmaCredit
theorem amt_pos (x : Slot) : 0 < amt x := View.dmaCredit_pos _ (by revert x; decide)

variable (m : (ℓ : Loc nD τ sig) → Buf (Elt F) ℓ)

/-- What the partner in direction `j` hands device `c` when they meet: the slot of its arrival buffer, for each
    stream, into which `c` writes. -/
def meetPay (c : Dev nD) (j : Fin 3) : sProp 𝕄 := bigSep Finset.univ fun s : Fin 3 => room (peer j c) cmB (slotRect (s, j - s))
/-- What a completed departure returns, and what an arrival brings. -/
def sendPay (c : Dev nD) (x : Slot) : sProp 𝕄 := room c stB (slotRect x)
def recvPay (c : Dev nD) (x : Slot) : sProp 𝕄 := piece c cmB (slotRect x) (sent m x (peer (dir x) c))

/-- The one duty of a send or receive cell. -/
abbrev the : Fin 3 := 0

def sched : Rounds.Schedule (GSem nD τ sig) (Fin 3) 𝕄 where
  duties g r := if r = 0 ∧ g.1.2 = .tc then (match g.2 with
    | .reg _ => Finset.univ
    | .dma q => if 5 ≤ q.val then {the} else ∅) else ∅
  unitless _ := False
  amount g _ _ := match g.2 with
    | .reg _ => 1
    | .dma q => if 14 ≤ q.val then amt (slotNo (q.val - 14)) else amt (slotNo (q.val - 5))
  payload g _ d := match g.2 with
    | .reg _ => meetPay g.1.1 d
    | .dma q => if 14 ≤ q.val then recvPay m g.1.1 (slotNo (q.val - 14)) else sendPay g.1.1 (slotNo (q.val - 5))
  amount_pos g _ _ _ := by
    rcases g with ⟨_, _ | q⟩
    · exact Nat.one_pos
    · dsimp only; split <;> exact amt_pos _

instance sched_storable (g : GSem nD τ sig) (r : ℕ) (d : Fin 3) :
    BI.Storable (upEmb : UEmb _ 𝕄) ((sched (F := F) m).payload g r d) := by
  rcases g with ⟨t, _ | q⟩
  · show BI.Storable upEmb (meetPay t.1 d); unfold meetPay; infer_instance
  · show BI.Storable upEmb (if 14 ≤ q.val then recvPay m t.1 (slotNo (q.val - 14)) else sendPay t.1 (slotNo (q.val - 5)))
    unfold recvPay sendPay
    split <;> infer_instance

/-! ## The schedule read at each cell -/

section Tables
variable (c : Dev nD) (x : Slot)

theorem send_lt : (sendS x).val < 14 := by rw [sendS_val]; have := x.1.isLt; have := x.2.isLt; omega
theorem send_no : slotNo ((sendS x).val - 5) = x := by rw [sendS_val, Nat.add_sub_cancel_left, slotNo_eq]
theorem recv_ge : 14 ≤ (recvS x).val := by rw [recvS_val]; omega
theorem recv_no : slotNo ((recvS x).val - 14) = x := by rw [recvS_val, Nat.add_sub_cancel_left, slotNo_eq]

theorem duties_bar : (sched (F := F) m).duties (barCell c) 0 = Finset.univ := by dsimp only [sched]; exact if_pos ⟨rfl, rfl⟩
theorem duties_send : (sched (F := F) m).duties (sendCell c x) 0 = {the} := by
  dsimp only [sched]; rw [if_pos ⟨rfl, rfl⟩, if_pos (by rw [sendS_val]; omega)]
theorem duties_recv : (sched (F := F) m).duties (recvCell c x) 0 = {the} := by
  dsimp only [sched]; rw [if_pos ⟨rfl, rfl⟩, if_pos (by rw [recvS_val]; omega)]
theorem duties_later (g : GSem nD τ sig) : ∀ r, 1 ≤ r → (sched (F := F) m).duties g r = ∅ :=
  fun r hr => by dsimp only [sched]; rw [if_neg fun h => by omega]

theorem amount_bar (d : Fin 3) : (sched (F := F) m).amount (barCell c) 0 d = 1 := rfl
theorem amount_send (d : Fin 3) : (sched (F := F) m).amount (sendCell c x) 0 d = amt x := by
  dsimp only [sched]; rw [if_neg (Nat.not_le.mpr (send_lt x)), send_no]
theorem amount_recv (d : Fin 3) : (sched (F := F) m).amount (recvCell c x) 0 d = amt x := by
  dsimp only [sched]; rw [if_pos (recv_ge x), recv_no]

theorem payload_bar (d : Fin 3) : (sched (F := F) m).payload (barCell c) 0 d = meetPay c d := rfl
theorem payload_send (d : Fin 3) : (sched (F := F) m).payload (sendCell c x) 0 d = sendPay c x := by
  dsimp only [sched]; rw [if_neg (Nat.not_le.mpr (send_lt x)), send_no]
theorem payload_recv (d : Fin 3) : (sched (F := F) m).payload (recvCell c x) 0 d = recvPay m c x := by
  dsimp only [sched]; rw [if_pos (recv_ge x), recv_no]

theorem expect_bar : (sched (F := F) m).expect (barCell c) 0 = 3 := by
  unfold Schedule.expect Schedule.amountOf
  rw [duties_bar]
  rfl
theorem expect_send : (sched (F := F) m).expect (sendCell c x) 0 = amt x := by
  unfold Schedule.expect Schedule.amountOf; rw [duties_send, Finset.sum_singleton, amount_send]
theorem expect_recv : (sched (F := F) m).expect (recvCell c x) 0 = amt x := by
  unfold Schedule.expect Schedule.amountOf; rw [duties_recv, Finset.sum_singleton, amount_recv]

theorem rest_bar : bigSep ((sched (F := F) m).duties (barCell c) 0 \ ∅) (fun d => (sched (F := F) m).payload (barCell c) 0 d)
    = bigSep Finset.univ fun j : Fin 3 => meetPay c j := by
  rw [Finset.sdiff_empty, duties_bar]; rfl
theorem rest_send : bigSep ((sched (F := F) m).duties (sendCell c x) 0 \ ∅) (fun d => (sched (F := F) m).payload (sendCell c x) 0 d) = sendPay c x := by
  rw [Finset.sdiff_empty, duties_send, bigSep_singleton, payload_send]
theorem rest_recv : bigSep ((sched (F := F) m).duties (recvCell c x) 0 \ ∅) (fun d => (sched (F := F) m).payload (recvCell c x) 0 d) = recvPay m c x := by
  rw [Finset.sdiff_empty, duties_recv, bigSep_singleton, payload_recv]

end Tables

/-! ## What is owed, and the order of the waits -/

/-- What device `c` owes its partners' receive cells while the transfers of the slots `l` are still to be started. -/
def due (c : Dev nD) : List Slot → CellTallies nD τ sig Unit
  | [] => 0
  | x :: l => due c l + tallyAt (recvCell (peer (dir x) c) x) () (amt x)

/-- The order in which the program starts its transfers: step by step, in each step stream by stream. -/
abbrev order : List Slot := [(0, 0), (1, 0), (2, 0), (0, 1), (1, 1), (2, 1), (0, 2), (1, 2), (2, 2)]

/-- At launch: every transfer, and a raise of each partner's meeting cell. -/
def O₂ (c : Dev nD) : CellTallies nD τ sig Unit := due c order + tallyAt (barCell (peer 2 c)) () 1
def O₁ (c : Dev nD) : CellTallies nD τ sig Unit := O₂ c + tallyAt (barCell (peer 1 c)) () 1
def O₀ (c : Dev nD) : CellTallies nD τ sig Unit := O₁ c + tallyAt (barCell (peer 0 c)) () 1

def L (g : GSem nD τ sig) : Finset Unit := if g.1.2 = .tc then {()} else ∅
/-- Meeting cells at 1, the receive cells of step `r` at `2 + r`, every other semaphore at 0. -/
def lv (g : GSem nD τ sig) (_ : Unit) : ℕ := match g.2 with
  | .reg _ => 1
  | .dma q => if 14 ≤ q.val then 2 + (slotNo (q.val - 14)).2.val else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (x : Slot) (u : Unit) : lv (recvCell c x) u = 2 + x.2.val := by
  dsimp only [lv]; rw [if_pos (recv_ge x), recv_no]
theorem lv_low (c : Dev nD) (q : DmaSem sig) (hq : q.val < 14) (u : Unit) : lv ((c : Thread nD τ), .dma q) u = 0 := by
  dsimp only [lv]; rw [if_neg (Nat.not_le.mpr hq)]

theorem tallyAt_pos {g g' : GSem nD τ sig} {n : ℕ} {u : Unit} (h : 0 < (tallyAt g () n : CellTallies nD τ sig Unit) g' u) : g' = g := by
  rw [tallyAt_apply] at h
  by_contra hn
  rw [if_neg fun h' => hn h'.1] at h
  exact Nat.lt_irrefl 0 h

theorem add_pos_cases {O O' : CellTallies nD τ sig Unit} {g : GSem nD τ sig} {u : Unit} (h : 0 < (O + O') g u) : 0 < O g u ∨ 0 < O' g u := by
  rw [Pi.add_apply, Finsupp.add_apply] at h; omega

theorem due_pos {c : Dev nD} {l : List Slot} {g : GSem nD τ sig} {u : Unit} (h : 0 < due c l g u) :
    ∃ x ∈ l, g = recvCell (peer (dir x) c) x := by
  induction l with
  | nil => exact absurd h (Nat.lt_irrefl 0)
  | cons x l ih =>
    rcases add_pos_cases h with h | h
    · obtain ⟨y, hy, e⟩ := ih h; exact ⟨y, List.mem_cons_of_mem _ hy, e⟩
    · exact ⟨x, List.mem_cons_self, tallyAt_pos h⟩

/-- What is owed at launch lies at levels 1 and above. -/
theorem O₀_pos {c : Dev nD} {g : GSem nD τ sig} {u : Unit} (h : 0 < O₀ c g u) : L g = {()} ∧ 0 < lv g u := by
  rcases add_pos_cases h with h | h
  · rcases add_pos_cases h with h | h
    · rcases add_pos_cases h with h | h
      · obtain ⟨x, -, rfl⟩ := due_pos h
        exact ⟨L_tc _ _, by rw [lv_recv]; omega⟩
      · obtain rfl := tallyAt_pos h; exact ⟨L_tc _ _, Nat.one_pos⟩
    · obtain rfl := tallyAt_pos h; exact ⟨L_tc _ _, Nat.one_pos⟩
  · obtain rfl := tallyAt_pos h; exact ⟨L_tc _ _, Nat.one_pos⟩

omit [FloatOps F] in
/-- A wait below everything owed: its semaphore's level is under each owed cell's. -/
theorem mayWait_of (c : Dev nD) (sm : SemLoc sig) (k : ℕ) (O : CellTallies nD τ sig Unit) (hsm : lv ((c : Thread nD τ), sm) () = k)
    (h : ∀ g u, 0 < O g u → L g = {()} ∧ k < lv g u) : (levAts L lv : sProp 𝕄) ⊢ MayWait (c : Thread nD τ) sm () O :=
  MayOwe.of_cut (L := L) (lev := lv) k (fun p hp => by rw [Finset.mem_singleton.mp hp, L_tc]; exact Finset.mem_singleton_self _)
    (fun g u hg => by rw [(h g u hg).1]; exact Finset.mem_singleton_self _)
    (fun p hp => by rw [Finset.mem_singleton.mp hp]; exact hsm.le) (fun g u hg => (h g u hg).2)

omit [FloatOps F] in
/-- A wait on a semaphore of level 0, whatever of the launch's debt remains. -/
theorem mayWait_stage (c : Dev nD) (q : DmaSem sig) (hq : q.val < 14) (O : CellTallies nD τ sig Unit) (hO : O = O₀ c ∨ O = 0) :
    (levAts L lv : sProp 𝕄) ⊢ MayWait (c : Thread nD τ) (.dma q) () O := by
  rcases hO with rfl | rfl
  · exact mayWait_of c _ 0 _ (lv_low c q hq ()) fun g u hg => O₀_pos hg
  · rw [MayWait_zero]; iintro -; iempintro

omit [FloatOps F] in
theorem mayWait_low (c : Dev nD) (q : DmaSem sig) (hq : q.val < 14) (l : List Slot) :
    (levAts L lv : sProp 𝕄) ⊢ MayWait (c : Thread nD τ) (.dma q) () (due c l) :=
  mayWait_of c _ 0 _ (lv_low c q hq ()) fun g u hg => by
    obtain ⟨x, -, rfl⟩ := due_pos hg; exact ⟨L_tc _ _, by rw [lv_recv]; omega⟩

omit [FloatOps F] in
theorem mayWait_bar (c : Dev nD) (l : List Slot) : (levAts L lv : sProp 𝕄) ⊢ MayWait (c : Thread nD τ) (.reg barS) () (due c l) :=
  mayWait_of c _ 1 _ rfl fun g u hg => by
    obtain ⟨x, -, rfl⟩ := due_pos hg; exact ⟨L_tc _ _, by rw [lv_recv]; omega⟩

omit [FloatOps F] in
/-- A device waits for an arrival of one step while only transfers of later steps remain to be started. -/
theorem mayWait_recv (c : Dev nD) (x : Slot) (l : List Slot) (h : ∀ y ∈ l, x.2.val < y.2.val) :
    (levAts L lv : sProp 𝕄) ⊢ MayWait (c : Thread nD τ) (.dma (recvS x)) () (due c l) :=
  mayWait_of c _ (2 + x.2.val) _ (lv_recv c x ()) fun g u hg => by
    obtain ⟨y, hy, rfl⟩ := due_pos hg
    exact ⟨L_tc _ _, by rw [lv_recv]; have := h y hy; omega⟩

end Cert.Butterfly

end
-- ==== Proof.Steps.lean ====
/-
One lemma per kind of step the program takes, each stated for any slot: reading and filling a rectangle of a buffer,
raising a partner's meeting semaphore and waiting at one's own, starting a slot's transfer, and waiting for its
departure and its arrival.
-/
module

public import proofs.«01_k».proof.Proof.Schedule
public import Idealize.ShloMosaic.Lib.Writes

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

abbrev 𝒱₀ : Variants := Variants.none

/-- The weakest precondition of a program of device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Reading and filling rectangles -/

section Local
variable (c : Dev nD) {α : Type} {sh : Shape} {e : EltTy} {B : Memref sig .tc .vmem sh e} {r : Rect sh}

theorem read_piece {Q : α → sProp 𝕄} {hl : B.view.LoadsAt r.toLoadRect} {k : (r.shape.Idx → Elt F e) → Prog (TpuEff nD τ sig (Elt F) Λ₀ .tc) α}
    {u : r.shape.Idx → Elt F e} :
    piece c B r u ⊢ iprop((piece c B r u -∗ run c (k u) Q) -∗ run c (.op (.load B r.toLoadRect hl) k) Q) := by
  unfold piece
  iintro ⟨%f, %hf, H⟩ Hk
  subst hf
  iapply (wp_load_rect 𝒱₀ (c : Thread nD τ) none Set.univ (m := B) (r := r) (S := (B.access r).set) subset_rfl) $$ H
  iintro H
  iapply Hk
  iexists f; isplitr; · (ipureintro; rfl)
  iexact H

theorem read_room {Q : α → sProp 𝕄} {hl : B.view.LoadsAt r.toLoadRect} {k : (r.shape.Idx → Elt F e) → Prog (TpuEff nD τ sig (Elt F) Λ₀ .tc) α} :
    room c B r ⊢ iprop((∀ u, room c B r -∗ run c (k u) Q) -∗ run c (.op (.load B r.toLoadRect hl) k) Q) := by
  unfold room
  iintro ⟨%f, H⟩ Hk
  iapply (wp_load_rect 𝒱₀ (c : Thread nD τ) none Set.univ (m := B) (r := r) (S := (B.access r).set) subset_rfl) $$ H
  iintro H
  iapply Hk
  iexists f; iexact H

theorem fill_room {Q : α → sProp 𝕄} {w : r.shape.Idx → Elt F e} {hx : (B.access r).Stores Finset.univ} {hm : Finset.univ = Finset.univ ∨ ∀ a, r.stride a = 1}
    {k : PUnit → Prog (TpuEff nD τ sig (Elt F) Λ₀ .tc) α} :
    room c B r ⊢ iprop((piece c B r w -∗ run c (k ⟨⟩) Q) -∗ run c (.op (.store B r w Finset.univ hx hm) k) Q) := by
  unfold room piece
  iintro ⟨%f, H⟩ Hk
  iapply (wp_store 𝒱₀ (c : Thread nD τ) none Set.univ (m := B) (r := r) (Mk := Finset.univ) (S := (B.access r).set) subset_rfl) $$ H
  iintro H
  iapply Hk
  iexists (B.access r).write (Elt F) f w Finset.univ; isplitr
  · ipureintro; exact View.read_write_univ _ _
  iexact H

end Local

/-! ## What every device knows: the cells' invariants, that each has reached its round, the levels -/

/-- The kinds of cell a device has: its meeting cell, and each slot's send (`false`) and receive (`true`) cell. -/
abbrev CK : Type := Option (Bool × Slot)

abbrev csem : CK → SemLoc sig
  | none => .reg barS
  | some (false, x) => .dma (sendS x)
  | some (true, x) => .dma (recvS x)
abbrev kcell (p : Dev nD × CK) : GSem nD τ sig := ((p.1 : Thread nD τ), csem p.2)

variable (m : (ℓ : Loc nD τ sig) → Buf (Elt F) ℓ) (K : Dev nD × CK → ℕ)

/-- The invariants of all cells of all devices, the first round of each reached, and the levels. -/
def known : sProp 𝕄 :=
  iprop((bigSep Finset.univ fun p : Dev nD × CK => cellInv ER (sched m) (K p) (kcell p))
    ∗ (bigSep Finset.univ fun p : Dev nD × CK => reached ER (kcell p) 0) ∗ levAts L lv)

instance known_persistent : BI.Persistent (known m K) := by unfold known; infer_instance

theorem known_inv (p : Dev nD × CK) : known m K ⊢ cellInv ER (sched m) (K p) (kcell p) := by
  unfold known
  refine BIBase.Entails.trans ?_ (bigSep_elim (Φ := fun p : Dev nD × CK => cellInv ER (sched m) (K p) (kcell p)) (Finset.mem_univ p))
  iintro ⟨H, -, -⟩; iexact H

theorem known_reached (p : Dev nD × CK) : known m K ⊢ reached ER (kcell p) 0 := by
  unfold known
  refine BIBase.Entails.trans ?_ (bigSep_elim (Φ := fun p : Dev nD × CK => (reached ER (kcell p) 0 : sProp 𝕄)) (Finset.mem_univ p))
  iintro ⟨-, H, -⟩; iexact H

theorem known_levels : known m K ⊢ levAts L lv := by
  unfold known; iintro ⟨-, -, H⟩; iexact H

/-- What device `c` still owes, whatever it has waited for. -/
def owing (c : Dev nD) (O : CellTallies nD τ sig Unit) : sProp 𝕄 := iprop(∃ W, owes (c : Thread nD τ) O W)

section Remote
variable (c : Dev nD) {α : Type}

/-- Raising the meeting semaphore of the partner in direction `j`, handing it the slots it will write into. -/
theorem raise (j : Fin 3) {Q : α → sProp 𝕄} {n : Dev nD} (hn : n = peer j c) {k' : ℕ} (hk : k' = 1) {O' : CellTallies nD τ sig Unit} (O : CellTallies nD τ sig Unit)
    (hO : O' = O + tallyAt (barCell (peer j c)) () 1) {k : PUnit → Prog (TpuEff nD τ sig (Elt F) Λ₀ .tc) α} :
    known m K ⊢ iprop(meetPay (peer j c) j -∗ dutyTok ER (barCell (peer j c)) 0 j -∗ owing c O'
      -∗ (owing c O -∗ run c (k ⟨⟩) Q) -∗ run c (.op (.semSignal (n : Thread nD τ) barS k') k) Q) := by
  subst hn hk hO
  unfold owing
  iintro #HK Hp Ht ⟨%W, HO⟩ Hk
  iapply (Rounds.wp_signal 𝒱₀ ER (sched m) (c : Thread nD τ) none (dst := (peer j c : Thread nD τ)) (κ := K (peer j c, none))
      (d := j) (by rw [duties_bar]; exact Finset.mem_univ _) (amount_bar m (peer j c) j) () O rfl) $$ [HO Ht Hp]
  · isplitr; · iapply (known_inv m K (peer j c, none)); iexact HK
    isplitl [HO]; · iexact HO
    isplitl [Ht]; · iexact Ht
    isplitl [Hp]; · iapply (Entails.of_eq (payload_bar m (peer j c) j).symm) $$ Hp
    iapply (known_reached m K (peer j c, none)); iexact HK
  iintro HO
  iapply Hk
  iexists W; iexact HO

/-- Waiting for the three partners: their slots are `c`'s to write. -/
theorem meet {Q : α → sProp 𝕄} {k' : ℕ} (hk : k' = 3) (l : List Slot) {k : PUnit → Prog (TpuEff nD τ sig (Elt F) Λ₀ .tc) α} :
    iprop(known m K ∗ cred (tallyAt (barCell c) () 3) ∗ atPos ER (barCell c) 0 ∅ 0 ∗ owing c (due c l))
      ⊢ iprop(((atPos ER (barCell c) 1 ∅ 0 ∗ (bigSep Finset.univ fun j : Fin 3 => meetPay c j) ∗ owing c (due c l)) -∗ run c (k ⟨⟩) Q)
          -∗ run c (.op (.semWait barS k') k) Q) := by
  subst hk
  unfold owing
  iintro ⟨#HK, Hc, Ha, ⟨%W, HO⟩⟩ Hk
  iapply (Rounds.wp_wait_rest_token 𝒱₀ ER (sched m) (c : Thread nD τ) none (κ := K (c, none))
      (wpE_semWait_eq 𝒱₀ (c : Thread nD τ) none Set.univ) (Set.mem_univ _) () (O := due c l) (W := W) (R := 0) (m := 0) (T := ∅)
      (by rw [expect_bar])) $$ [Hc HO Ha]
  · isplitr; · iapply (known_inv m K (c, none)); iexact HK
    isplitl [Hc]; · iexact Hc
    isplitl [HO]; · iexact HO
    isplitr; · iapply (mayWait_bar c l); iapply (known_levels m K); iexact HK
    iexact Ha
  iintro ⟨HO, Ha, -, Hp⟩
  iapply Hk
  isplitl [Ha]; · iexact Ha
  isplitl [Hp]; · iapply (Entails.of_eq (rest_bar m c)) $$ Hp
  iexists _; iexact HO

/-- What a transfer of the slot's block leaves at the partner. -/
theorem landed (x : Slot) (u : (slotSh x.1).Idx → Elt F .bf16) (c' : Dev nD) (fs : Buf (Elt F) ((stM x).view.loc (c : Thread nD τ)))
    (fd : Buf (Elt F) ((cmM x).view.loc (c' : Thread nD τ))) (h : (stB.access (slotRect x)).read (Elt F) fs = u) :
    (cmB.access (slotRect x)).read (Elt F) ((cmM x).view.write (Elt F) fd ((stM x).view.read (Elt F) fs) Finset.univ) = u := by
  subst h
  refine (congrArg _ (View.write_reshape_univ (v := cmB.access (slotRect x)) (slot_squeezes x.1).numel_eq fd _)).trans ?_
  refine (View.read_write_univ _ _).trans (funext fun y => ?_)
  show (stB.access (slotRect x)).read (Elt F) fs (Shape.reshapeEquiv _ ((Shape.reshapeEquiv _).symm y)) = _
  rw [Equiv.apply_symm_apply]

/-- Starting a slot's transfer: the block leaves for the partner's arrival buffer. -/
theorem depart (x : Slot) (l : List Slot) {Q : α → sProp 𝕄} {n : Dev nD} (hn : n = peer (dir x) c)
    {hsc : (cmM x).view.ref.isScScratch = false} {hsrc : (stM x).view.WordExact} {hdst : (cmM x).view.WordExact}
    {hsem : DmaTarget.Typed .vmem (.dma (recvS x)) (.remote (Dev.tc n : Thread nD τ) (cmM x) (.dma (sendS x)) hsc)}
    {k : PUnit → Prog (TpuEff nD τ sig (Elt F) Λ₀ .tc) α} :
    iprop(known m K ∗ piece c stB (slotRect x) (sent m x c) ∗ room (peer (dir x) c) cmB (slotRect x)
        ∗ dutyTok ER (sendCell c x) 0 the ∗ dutyTok ER (recvCell (peer (dir x) c) x) 0 the ∗ owing c (due c (x :: l)))
      ⊢ iprop(((cred (tallyAt (sendCell c x) () (amt x)) ∗ owing c (due c l)) -∗ run c (k ⟨⟩) Q)
          -∗ run c (.op (.enqueueDma (stM x) (.remote (Dev.tc n : Thread nD τ) (cmM x) (.dma (sendS x)) hsc) (.dma (recvS x)) hsrc hdst hsem) k) Q) := by
  subst hn
  unfold owing piece room
  iintro ⟨#HK, ⟨%fs, %hf, Hs⟩, ⟨%fd, Hd⟩, Ht, Ht', ⟨%W, HO⟩⟩ Hk
  have hset : (stM x).view.set = (stB.access (slotRect x)).set := View.set_reshape _ _
  have hset' : (cmM x).view.set = (cmB.access (slotRect x)).set := View.set_reshape _ _
  iapply (Rounds.wp_send_pointsTo 𝒱₀ ER (sched m) (c : Thread nD τ) none (c' := (peer (dir x) c : Thread nD τ)) (src := stM x) (dst := cmM x)
    (κ₁ := K (c, some (false, x))) (κ₂ := K (peer (dir x) c, some (true, x))) (q := fullShare) (fs := fs) (fd := fd)
    (r₁ := 0) (r₂ := 0) (d₁ := the) (d₂ := the)
    (by rw [duties_send]; exact Finset.mem_singleton_self _) (by rw [duties_recv]; exact Finset.mem_singleton_self _)
    () () (amt x) rfl (amount_send m c x the) (amount_recv m (peer (dir x) c) x the) (due c l) rfl (W := W)
    (by rw [payload_send]; unfold sendPay room; rw [hset]; iintro H; iexists fs; iexact H)
    (by
      rw [payload_recv]; unfold recvPay piece; rw [hset', peer_peer]
      iintro H; iexists _
      isplitr
      · ipureintro; exact landed c x (sent m x c) (peer (dir x) c) fs fd hf
      iexact H)) $$ [Hs Hd Ht Ht' HO]
  · isplitr; · iapply (known_inv m K (c, some (false, x))); iexact HK
    isplitr; · iapply (known_inv m K (peer (dir x) c, some (true, x))); iexact HK
    isplitl [Hs]; · rw [hset]; iexact Hs
    isplitl [Hd]; · rw [hset']; iexact Hd
    isplitl [HO]; · iexact HO
    isplitl [Ht]; · iexact Ht
    isplitr; · iapply (known_reached m K (c, some (false, x))); iexact HK
    isplitl [Ht']; · iexact Ht'
    iapply (known_reached m K (peer (dir x) c, some (true, x))); iexact HK
  iintro ⟨Hc, HO⟩
  iapply Hk
  isplitl [Hc]; · iexact Hc
  iexists W; iexact HO

/-- Waiting until a slot's block has left: its place in the departure buffer is free again. -/
theorem departed (x : Slot) (l : List Slot) {Q : α → sProp 𝕄} {hsrc : (cmM x).view.WordExact} {hdst : (stM x).view.WordExact}
    {k : PUnit → Prog (TpuEff nD τ sig (Elt F) Λ₀ .tc) α} :
    iprop(known m K ∗ cred (tallyAt (sendCell c x) () (amt x)) ∗ atPos ER (sendCell c x) 0 ∅ 0 ∗ owing c (due c l))
      ⊢ iprop(((atPos ER (sendCell c x) 1 ∅ 0 ∗ room c stB (slotRect x) ∗ owing c (due c l)) -∗ run c (k ⟨⟩) Q)
          -∗ run c (.op (.waitDma2 (sendS x) (cmM x) (stM x) hsrc hdst) k) Q) := by
  unfold owing
  iintro ⟨#HK, Hc, Ha, ⟨%W, HO⟩⟩ Hk
  iapply (Rounds.wp_wait_rest_token 𝒱₀ ER (sched m) (c : Thread nD τ) none (κ := K (c, some (false, x)))
      (wpE_waitDma2_eq 𝒱₀ (c : Thread nD τ) none Set.univ) (Set.mem_univ _) () (O := due c l) (W := W) (R := 0) (m := 0) (T := ∅)
      (by rw [Nat.zero_add, expect_send])) $$ [Hc HO Ha]
  · isplitr; · iapply (known_inv m K (c, some (false, x))); iexact HK
    isplitl [Hc]; · iexact Hc
    isplitl [HO]; · iexact HO
    isplitr; · iapply (mayWait_low c (sendS x) (send_lt x) l); iapply (known_levels m K); iexact HK
    iexact Ha
  iintro ⟨HO, Ha, -, Hp⟩
  iapply Hk
  isplitl [Ha]; · iexact Ha
  isplitl [Hp]; · iapply (Entails.of_eq ((rest_send m c x).trans (by unfold sendPay; rfl))) $$ Hp
  iexists _; iexact HO

/-- Waiting for the partner's block of a slot, while only transfers of later steps are still to be started. -/
theorem arrived (x : Slot) (l : List Slot) (h : ∀ y ∈ l, x.2.val < y.2.val) {Q : α → sProp 𝕄} {hsrc : (stM x).view.WordExact}
    {hdst : (cmM x).view.WordExact} {k : PUnit → Prog (TpuEff nD τ sig (Elt F) Λ₀ .tc) α} :
    iprop(known m K ∗ cred (tallyAt (recvCell c x) () (amt x)) ∗ atPos ER (recvCell c x) 0 ∅ 0 ∗ owing c (due c l))
      ⊢ iprop(((atPos ER (recvCell c x) 1 ∅ 0 ∗ piece c cmB (slotRect x) (sent m x (peer (dir x) c)) ∗ owing c (due c l)) -∗ run c (k ⟨⟩) Q)
          -∗ run c (.op (.waitDma2 (recvS x) (stM x) (cmM x) hsrc hdst) k) Q) := by
  unfold owing
  iintro ⟨#HK, Hc, Ha, ⟨%W, HO⟩⟩ Hk
  iapply (Rounds.wp_wait_rest_token 𝒱₀ ER (sched m) (c : Thread nD τ) none (κ := K (c, some (true, x)))
      (wpE_waitDma2_eq 𝒱₀ (c : Thread nD τ) none Set.univ) (Set.mem_univ _) () (O := due c l) (W := W) (R := 0) (m := 0) (T := ∅)
      (by rw [Nat.zero_add, expect_recv])) $$ [Hc HO Ha]
  · isplitr; · iapply (known_inv m K (c, some (true, x))); iexact HK
    isplitl [Hc]; · iexact Hc
    isplitl [HO]; · iexact HO
    isplitr; · iapply (mayWait_recv c x l h); iapply (known_levels m K); iexact HK
    iexact Ha
  iintro ⟨HO, Ha, -, Hp⟩
  iapply Hk
  isplitl [Ha]; · iexact Ha
  isplitl [Hp]; · iapply (Entails.of_eq ((rest_recv m c x).trans (by unfold recvPay; rfl))) $$ Hp
  iexists _; iexact HO

end Remote

end Cert.Butterfly

end
-- ==== Proof.Exchange.lean ====
/-
The two movements the program repeats for its nine slots — sending off a block, and taking in the partner's — each as
one lemma over the run of operations that makes it up.
-/
module

public import proofs.«01_k».proof.Proof.Steps

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CK → ℕ) (c : Dev nD)

/-- What belongs to a slot at its owner before its block is sent, … -/
def ready (x : Slot) : sProp 𝕄 :=
  iprop(dutyTok ER (sendCell c x) 0 the ∗ dutyTok ER (recvCell (peer (dir x) c) x) 0 the
    ∗ atPos ER (sendCell c x) 0 ∅ 0 ∗ atPos ER (recvCell c x) 0 ∅ 0 ∗ cred (tallyAt (recvCell c x) () (amt x))
    ∗ room c stB (slotRect x))
/-- … while blocks are under way in both directions, … -/
def flying (x : Slot) : sProp 𝕄 :=
  iprop(cred (tallyAt (sendCell c x) () (amt x)) ∗ atPos ER (sendCell c x) 0 ∅ 0 ∗ atPos ER (recvCell c x) 0 ∅ 0
    ∗ cred (tallyAt (recvCell c x) () (amt x)))
/-- … and when both are through. -/
def through (x : Slot) : sProp 𝕄 :=
  iprop(atPos ER (sendCell c x) 1 ∅ 0 ∗ atPos ER (recvCell c x) 1 ∅ 0 ∗ room (F := F) c stB (slotRect x) ∗ room (F := F) c cmB (slotRect x))

/-- Stream `s` of the result's buffer, after `r` steps. -/
abbrev partway (s : Fin 3) (r : ℕ) : sProp 𝕄 := piece c outB (chunkRect s) (acc m s r c)

variable {α : Type}

/-- The block of a slot is put in the departure buffer and sent. -/
theorem sendOff (x : Slot) (l : List Slot) {Q : α → sProp 𝕄} {n : Dev nD} (hn : n = peer (dir x) c)
    {w : (slotRect x).shape.Idx → Elt F .bf16} (hw : w = sent m x c)
    {hl : stB.view.LoadsAt (slotRect x).toLoadRect} {hx : (stB.access (slotRect x)).Stores Finset.univ}
    {hm : Finset.univ = Finset.univ ∨ ∀ a, (slotRect x).stride a = 1}
    {hsc : (cmM x).view.ref.isScScratch = false} {hsrc : (stM x).view.WordExact} {hdst : (cmM x).view.WordExact}
    {hsem : DmaTarget.Typed .vmem (.dma (recvS x)) (.remote (Dev.tc n : Thread nD τ) (cmM x) (.dma (sendS x)) hsc)}
    {k : PUnit → Prog (TpuEff nD τ sig (Elt F) Λ₀ .tc) α} :
    known m K ⊢ iprop(ready c x -∗ room (peer (dir x) c) cmB (slotRect x) -∗ owing c (due c (x :: l))
      -∗ ((flying c x ∗ owing c (due c l)) -∗ run c (k ⟨⟩) Q)
          -∗ run c (.op (.load stB (slotRect x).toLoadRect hl) fun _ => .op (.store stB (slotRect x) w Finset.univ hx hm) fun _ =>
              .op (.enqueueDma (stM x) (.remote (Dev.tc n : Thread nD τ) (cmM x) (.dma (sendS x)) hsc) (.dma (recvS x)) hsrc hdst hsem) k) Q) := by
  subst hw
  unfold ready flying
  iintro #HK ⟨Ht, Ht', Ha, Ha', Hc', Hs⟩ Hd HO Hk
  iapply (read_room c) $$ Hs; iintro %v Hs
  iapply (fill_room c) $$ Hs; iintro Hs
  iapply (depart m K c x l hn) $$ [Hs Hd Ht Ht' HO]
  · isplitr; · iexact HK
    isplitl [Hs]; · iexact Hs
    isplitl [Hd]; · iexact Hd
    isplitl [Ht]; · iexact Ht
    isplitl [Ht'] <;> iassumption
  iintro ⟨Hc, HO⟩
  iapply Hk
  isplitr [HO]
  · isplitl [Hc]; · iexact Hc
    isplitl [Ha]; · iexact Ha
    isplitl [Ha'] <;> iassumption
  iexact HO

/-- The partner's block of a slot is awaited and added to the stream's running sum. -/
theorem takeIn (x : Slot) (l : List Slot) (h : ∀ y ∈ l, x.2.val < y.2.val) {s : Fin 3} (hs : x.1 = s) {n : ℕ} (hn : x.2.val = n) {Q : α → sProp 𝕄}
    {g : ((chunkRect x.1).shape.Idx → Elt F .f32) → ((slotRect x).shape.Idx → Elt F .bf16) → ((chunkRect x.1).shape.Idx → Elt F .f32)}
    (hg : ∀ v w, g v w = merge x.1 v w)
    {h1 : (cmM x).view.WordExact} {h2 : (stM x).view.WordExact} {h3 : (stM x).view.WordExact} {h4 : (cmM x).view.WordExact}
    {hl : outB.view.LoadsAt (chunkRect x.1).toLoadRect} {hl' : cmB.view.LoadsAt (slotRect x).toLoadRect}
    {hl'' : outB.view.LoadsAt (chunkRect x.1).toLoadRect} {hx : (outB.access (chunkRect x.1)).Stores Finset.univ}
    {hm : Finset.univ = Finset.univ ∨ ∀ a, (chunkRect x.1).stride a = 1}
    {k : ((chunkRect x.1).shape.Idx → Elt F .f32) → ((slotRect x).shape.Idx → Elt F .bf16) → Prog (TpuEff nD τ sig (Elt F) Λ₀ .tc) α} :
    known m K ⊢ iprop(flying c x -∗ partway m c s n -∗ owing c (due c l)
      -∗ ((through c x ∗ partway m c s (n + 1) ∗ owing c (due c l)) -∗ run c (k (acc m x.1 x.2.val c) (sent m x (peer (dir x) c))) Q)
          -∗ run c (.op (.waitDma2 (sendS x) (cmM x) (stM x) h1 h2) fun _ => .op (.waitDma2 (recvS x) (stM x) (cmM x) h3 h4) fun _ =>
              .op (.load outB (chunkRect x.1).toLoadRect hl) fun v => .op (.load cmB (slotRect x).toLoadRect hl') fun w =>
              .op (.load outB (chunkRect x.1).toLoadRect hl'') fun _ => .op (.store outB (chunkRect x.1) (g v w) Finset.univ hx hm) fun _ => k v w) Q) := by
  subst hs hn
  unfold flying through
  iintro #HK ⟨Hc, Ha, Ha', Hc'⟩ Ho HO Hk
  iapply (departed m K c x l) $$ [Hc Ha HO]
  · isplitr; · iexact HK
    isplitl [Hc]; · iexact Hc
    isplitl [Ha] <;> iassumption
  iintro ⟨Ha, Hs, HO⟩
  iapply (arrived m K c x l h) $$ [Hc' Ha' HO]
  · isplitr; · iexact HK
    isplitl [Hc']; · iexact Hc'
    isplitl [Ha'] <;> iassumption
  iintro ⟨Ha', Hd, HO⟩
  iapply (read_piece c) $$ Ho; iintro Ho
  iapply (read_piece c) $$ Hd; iintro Hd
  iapply (read_piece c) $$ Ho; iintro Ho
  ihave Ho := (piece_room c outB (chunkRect x.1) _) $$ Ho
  iapply (fill_room c) $$ Ho; iintro Ho
  iapply Hk
  isplitl [Ha Ha' Hs Hd]
  · isplitl [Ha]; · iexact Ha
    isplitl [Ha']; · iexact Ha'
    isplitl [Hs]; · iexact Hs
    iapply (piece_room c cmB (slotRect x) _) $$ Hd
  isplitl [Ho]
  · rw [hg, ← acc_succ]; iexact Ho
  iexact HO

end Cert.Butterfly

end
-- ==== Proof.Fetch.lean ====
/-
The arguments' way into on-chip memory: a device copies each of its four arguments into a buffer of its own, goes on,
and later waits for the copy.
-/
module

public import proofs.«01_k».proof.Proof.Steps

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CK → ℕ)
variable (c : Dev nD) {α : Type} {s : Shape} {e : EltTy} {src : Memref sig .tc .hbm s e} {dst : Memref sig .tc .vmem s e} {q : DmaSem sig}

/-- A buffer held whole, reading `u`. -/
def holds (dst : Memref sig .tc .vmem s e) (u : s.Idx → Elt F e) : sProp 𝕄 :=
  iprop(∃ f, ⌜dst.view.read (Elt F) f = u⌝ ∗ (dst.view.loc (c : Thread nD τ) ↦[dst.view.set]{fullShare} f))

/-- A copy of the argument `src`, at contents `fs`, into `dst`, under way on the semaphore `q`. -/
def coming (src : Memref sig .tc .hbm s e) (dst : Memref sig .tc .vmem s e) (q : DmaSem sig) (fs : Buf (Elt F) (src.view.loc (c : Thread nD τ))) : sProp 𝕄 :=
  iprop(∃ fd, Flight EC (c : Thread nD τ) (.dma q) () dst.view.dmaCredit
    iprop((dst.view.loc (c : Thread nD τ) ↦[dst.view.set]{fullShare} (dst.view.write (Elt F) fd (src.view.read (Elt F) fs) Finset.univ))
      ∗ (src.view.loc (c : Thread nD τ) ↦[src.view.set]{fullShare} fs)))

theorem fetch (hs : 0 < s.numel) (fs : Buf (Elt F) (src.view.loc (c : Thread nD τ))) {Q : α → sProp 𝕄}
    {h1 : src.view.WordExact} {h2 : dst.view.WordExact} {h3 : (DmaTarget.here dst : DmaTarget nD τ sig .tc .vmem s e).Typed .hbm (.dma q)}
    {k : PUnit → Prog (TpuEff nD τ sig (Elt F) Λ₀ .tc) α} :
    iprop((src.view.loc (c : Thread nD τ) ↦[src.view.set]{fullShare} fs)
        ∗ (∃ fd, dst.view.loc (c : Thread nD τ) ↦[dst.view.set]{fullShare} fd) ∗ semVal ((c : Thread nD τ), .dma q) 0)
      ⊢ iprop((coming c src dst q fs -∗ run c (k ⟨⟩) Q) -∗ run c (.op (.enqueueDma src (.here dst) (.dma q) h1 h2 h3) k) Q) := by
  unfold coming
  iintro ⟨Hs, ⟨%fd, Hd⟩, Hv⟩ Hk
  iapply (wp_dmaLocal EC 𝒱₀ (c : Thread nD τ) none (src := src) (dst := dst) (fs := fs) (fd := fd) (q := fullShare) () dst.view.dmaCredit
    rfl (View.dmaCredit_pos _ hs) subset_rfl) $$ [Hs Hd Hv]
  · isplitl [Hs]; · iexact Hs
    isplitl [Hd] <;> iassumption
  iintro H
  iapply Hk
  iexists fd; iexact H

theorem fetched (hq : q.val < 14) (l : List Slot) (fs : Buf (Elt F) (src.view.loc (c : Thread nD τ))) {Q : α → sProp 𝕄}
    {h1 : src.view.WordExact} {h2 : dst.view.WordExact} {k : PUnit → Prog (TpuEff nD τ sig (Elt F) Λ₀ .tc) α} :
    known m K ⊢ iprop(coming c src dst q fs -∗ owing c (due c l)
      -∗ ((holds c dst (src.view.read (Elt F) fs) ∗ (src.view.loc (c : Thread nD τ) ↦[src.view.set]{fullShare} fs)
            ∗ semVal ((c : Thread nD τ), .dma q) 0 ∗ owing c (due c l)) -∗ run c (k ⟨⟩) Q)
          -∗ run c (.op (.waitDma2 q src dst h1 h2) k) Q) := by
  unfold coming owing holds
  iintro #HK ⟨%fd, Hf⟩ ⟨%W, HO⟩ Hk
  iapply (wp_waitLocalO EC 𝒱₀ (c : Thread nD τ) none (O := due c l) (W := W) () rfl) $$ [Hf HO]
  · isplitl [Hf]; · iexact Hf
    isplitl [HO]; · iexact HO
    iapply (mayWait_low c q hq l); iapply (known_levels m K); iexact HK
  iintro ⟨⟨Hd, Hs⟩, Hv, HO⟩
  iapply Hk
  isplitl [Hd]
  · iexists _; isplitr
    · ipureintro; exact View.read_write_univ fd _
    iexact Hd
  isplitl [Hs]; · iexact Hs
  isplitl [Hv]; · iexact Hv
  iexists _; iexact HO

/-- Reading a buffer held whole, by the rectangle that is all of it. -/
theorem read_holds {off : Fin s.rank → ℕ} {inb : ∀ a, off a + s.size a ≤ s.size a}
    (hr : ∀ f, dst.view.readAt (Elt F) (Rect.unit off s.size inb).toLoadRect f = dst.view.read (Elt F) f) {u : s.Idx → Elt F e}
    {Q : α → sProp 𝕄} {hl : dst.view.LoadsAt (Rect.unit off s.size inb).toLoadRect}
    {k : (s.Idx → Elt F e) → Prog (TpuEff nD τ sig (Elt F) Λ₀ .tc) α} :
    holds c dst u ⊢ iprop((holds c dst u -∗ run c (k u) Q) -∗ run c (.op (.load dst (Rect.unit off s.size inb).toLoadRect hl) k) Q) := by
  unfold holds
  iintro ⟨%f, %hf, H⟩ Hk
  subst hf
  iapply (wp_load 𝒱₀ (c : Thread nD τ) none Set.univ (m := dst) (r := (Rect.unit off s.size inb).toLoadRect) (S := dst.view.set)
    (View.setOn_subset_set dst.view _)) $$ H
  iintro H
  rw [hr f]
  iapply Hk
  iexists f; isplitr; · (ipureintro; rfl)
  iexact H

/-- Reading it to no purpose and filling it, by the same rectangle. -/
theorem fill_all {off : Fin s.rank → ℕ} {inb inb' : ∀ a, off a + s.size a ≤ s.size a} {w : s.Idx → Elt F e}
    (hw : ∀ f : Buf (Elt F) (dst.view.loc (c : Thread nD τ)), dst.view.read (Elt F) ((dst.access (Rect.unit off s.size inb')).write (Elt F) f w Finset.univ) = w)
    {Q : α → sProp 𝕄} {hl : dst.view.LoadsAt (Rect.unit off s.size inb).toLoadRect}
    {hx : (dst.access (Rect.unit off s.size inb')).Stores Finset.univ}
    {hm : Finset.univ = Finset.univ ∨ ∀ a, (Rect.unit off s.size inb').stride a = 1}
    {k : PUnit → Prog (TpuEff nD τ sig (Elt F) Λ₀ .tc) α} :
    iprop(∃ f, dst.view.loc (c : Thread nD τ) ↦[dst.view.set]{fullShare} f)
      ⊢ iprop((holds c dst w -∗ run c (k ⟨⟩) Q)
          -∗ run c (.op (.load dst (Rect.unit off s.size inb).toLoadRect hl) fun _ => .op (.store dst (Rect.unit off s.size inb') w Finset.univ hx hm) k) Q) := by
  unfold holds
  iintro ⟨%f, H⟩ Hk
  iapply (wp_load 𝒱₀ (c : Thread nD τ) none Set.univ (m := dst) (r := (Rect.unit off s.size inb).toLoadRect) (S := dst.view.set)
    (View.setOn_subset_set dst.view _)) $$ H
  iintro H
  iapply (wp_store 𝒱₀ (c : Thread nD τ) none Set.univ (m := dst) (r := Rect.unit off s.size inb') (S := dst.view.set)
    ((View.setOn_subset_set _ _).trans (View.set_slice_subset (v := dst.view) _))) $$ H
  iintro H
  iapply Hk
  iexists _; isplitr; · (ipureintro; exact hw f)
  iexact H

end Cert.Butterfly

end
-- ==== Proof.Parts.lean ====
/-
A buffer taken apart along rectangles that don't meet, and put together again. What no rectangle covers is kept aside
as the MARGIN.
-/
module

public import proofs.«01_k».proof.Proof.Steps
public import Idealize.ShloMosaic.Lib.ViewIndex

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable {ι : Type} [Fintype ι] [DecidableEq ι] (c : Dev nD) {sh : Shape} {e : EltTy} (B : Memref sig .tc .vmem sh e) (R : ι → Rect sh)

/-- The elements under the rectangles. -/
abbrev covered : Finset (Idx (B.view.loc (c : Thread nD τ))) := Finset.univ.biUnion fun i : ι => (B.access (R i)).set

omit [FloatOps F] in
theorem each {Φ Ψ : ι → sProp 𝕄} (h : ∀ i, Φ i ⊢ Ψ i) : bigSep Finset.univ Φ ⊢ bigSep Finset.univ Ψ := bigSep_mono fun i _ => h i

/-- The elements of the buffer under none of the rectangles. -/
def margin : sProp 𝕄 := iprop(∃ f, B.view.loc (c : Thread nD τ) ↦[B.view.set \ covered c B R]{fullShare} f)

omit [Fintype ι] [DecidableEq ι] in
theorem access_disjoint (hd : ∀ i j, i ≠ j → Disjoint (R i).set (R j).set) (i j : ι) (h : i ≠ j) :
    Disjoint (B.access (R i)).set (B.access (R j)).set := View.disjoint_slice (hd i j h)

theorem covered_subset : covered c B R ⊆ B.view.set := fun x hx => by
  obtain ⟨i, -, hi⟩ := Finset.mem_biUnion.mp hx
  exact View.set_slice_subset (v := B.view) (R i) hi

omit [FloatOps F] in
/-- A buffer taken apart: each rectangle with what it reads there. -/
theorem cut (hd : ∀ i j, i ≠ j → Disjoint (R i).set (R j).set) (f : Buf (Elt F) (B.view.loc (c : Thread nD τ))) :
    (B.view.loc (c : Thread nD τ) ↦[B.view.set]{fullShare} f : sProp 𝕄)
      ⊢ iprop((bigSep Finset.univ fun i => piece c B (R i) ((B.access (R i)).read (Elt F) f)) ∗ margin c B R) := by
  refine (pointsTo_split_subset (covered_subset c B R)).1.trans ?_
  rw [pointsTo_biUnion (ℓ := B.view.loc (c : Thread nD τ)) Finset.univ (fun i => (B.access (R i)).set) (fun i _ j _ h => access_disjoint B R hd i j h)]
  unfold margin
  refine BIClass.sep_mono (each fun i => ?_) ?_
  · unfold piece
    iintro H; iexists f; isplitr; · (ipureintro; rfl)
    iexact H
  · iintro H; iexists f; iexact H

omit [FloatOps F] in
theorem piece_written (r : Rect sh) (u : r.shape.Idx → Elt F e) (f₀ : Buf (Elt F) ((B.access r).loc (c : Thread nD τ))) :
    piece c B r u ⊢ ((B.access r).loc (c : Thread nD τ) ↦[(B.access r).set]{fullShare} ((B.access r).write (Elt F) f₀ u Finset.univ)) := by
  unfold piece
  iintro ⟨%f, %hf, H⟩
  subst hf
  iapply (Entails.of_eq (pointsTo_congr (g := (B.access r).write (Elt F) f₀ ((B.access r).read (Elt F) f) Finset.univ) fun i hi => by
    obtain ⟨x, -, rfl⟩ := Finset.mem_map.mp hi
    exact View.eq_of_read_eq (congrFun (View.read_write_univ (v := B.access r) f₀ _).symm x))) $$ H

omit [FloatOps F] in
/-- And put together: it reads in each rectangle what was there. -/
theorem glue (hd : ∀ i j, i ≠ j → Disjoint (R i).set (R j).set) (u : ∀ i, (R i).shape.Idx → Elt F e) :
    iprop((bigSep Finset.univ fun i => piece c B (R i) (u i)) ∗ margin c B R)
      ⊢ iprop(∃ g : Buf (Elt F) (B.view.loc (c : Thread nD τ)), ⌜∀ i, (B.access (R i)).read (Elt F) g = u i⌝
          ∗ (B.view.loc (c : Thread nD τ) ↦[B.view.set]{fullShare} g)) := by
  unfold margin
  iintro ⟨Hp, ⟨%f₀, Hm⟩⟩
  ihave Hp := (each fun i => piece_written c B (R i) (u i) f₀) $$ Hp
  ihave Hp := (pointsTo_biUnion_join (ℓ := B.view.loc (c : Thread nD τ)) Finset.univ (fun i => (B.access (R i)).set)
    (fun i => (B.access (R i)).write (Elt F) f₀ (u i) Finset.univ) f₀ (fun i _ j _ h => access_disjoint B R hd i j h)) $$ Hp
  icases Hp with ⟨%g, %hg, Hp⟩
  ihave H := (pointsTo_join_subset (covered_subset c B R)) $$ [Hp Hm]
  · isplitl [Hp]; · iexact Hp
    iexact Hm
  iexists (covered c B R).piecewise g f₀
  isplitr
  · ipureintro
    intro i
    refine (View.read_congr fun k hk => ?_).trans (View.read_write_univ (v := B.access (R i)) f₀ (u i))
    rw [Finset.piecewise_eq_of_mem _ _ _ (Finset.mem_biUnion.mpr ⟨i, Finset.mem_univ i, hk⟩)]
    exact hg i (Finset.mem_univ i) k hk
  iexact H

omit [FloatOps F] in
/-- The same for a buffer whose contents don't matter. -/
theorem cut_rooms (hd : ∀ i j, i ≠ j → Disjoint (R i).set (R j).set) :
    iprop(∃ f, B.view.loc (c : Thread nD τ) ↦[B.view.set]{fullShare} f)
      ⊢ iprop((bigSep Finset.univ fun i => room (F := F) c B (R i)) ∗ margin c B R) := by
  iintro ⟨%f, H⟩
  ihave H := (cut c B R hd f) $$ H
  icases H with ⟨Hp, Hm⟩
  isplitl [Hp]
  · iapply (each fun i => piece_room c B (R i) _) $$ Hp
  iexact Hm

theorem glue_rooms (hd : ∀ i j, i ≠ j → Disjoint (R i).set (R j).set) :
    iprop((bigSep Finset.univ fun i => room (F := F) c B (R i)) ∗ margin c B R)
      ⊢ iprop(∃ f, B.view.loc (c : Thread nD τ) ↦[B.view.set]{fullShare} f) := by
  have hr : ∀ i, room (F := F) c B (R i) ⊢ iprop(∃ u, piece c B (R i) u) := fun i => by
    unfold room piece
    iintro ⟨%f, H⟩
    iexists (B.access (R i)).read (Elt F) f; iexists f
    isplitr; · (ipureintro; rfl)
    iexact H
  iintro ⟨Hp, Hm⟩
  ihave Hp := (each hr) $$ Hp
  ihave Hp := (bigSep_exists_pi Finset.univ fun i u => piece c B (R i) u) $$ Hp
  icases Hp with ⟨%u, Hp⟩
  ihave H := (glue c B R hd u) $$ [Hp Hm]
  · isplitl [Hp]; · iexact Hp
    iexact Hm
  icases H with ⟨%g, -, H⟩
  iexists g; iexact H

end Cert.Butterfly

end
-- ==== Proof.Ends.lean ====
/-
What a device starts from and ends with, slot by slot: the arrival slots it hands its partners and those it is handed,
and the semaphores it has done with.
-/
module

public import proofs.«01_k».proof.Proof.Exchange
public import proofs.«01_k».proof.Proof.Fetch
public import proofs.«01_k».proof.Proof.Parts

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

omit [FloatOps F] in
theorem three (Φ : Fin 3 → sProp 𝕄) : bigSep Finset.univ Φ = iprop(Φ 0 ∗ Φ 1 ∗ Φ 2) :=
  (bigSep_univ_eq_bigSepL [0, 1, 2] (by decide) (by decide) Φ).trans rfl

omit [FloatOps F] in
/-- The slots one by one, in the order in which they are sent. -/
theorem nine (Φ : Slot → sProp 𝕄) : bigSep Finset.univ Φ = iprop(Φ (0, 0) ∗ Φ (1, 0) ∗ Φ (2, 0) ∗ Φ (0, 1) ∗ Φ (1, 1) ∗ Φ (2, 1)
    ∗ Φ (0, 2) ∗ Φ (1, 2) ∗ Φ (2, 2)) :=
  (bigSep_univ_eq_bigSepL order (by decide) (by decide) Φ).trans rfl

/-- The direction and the stream of a slot determine it. -/
def bySide : Fin 3 × Fin 3 ≃ Slot where
  toFun p := (p.2, p.1 - p.2)
  invFun x := (dir x, x.1)
  left_inv := by decide
  right_inv := by decide

omit [FloatOps F] in
theorem by_side (Φ : Slot → sProp 𝕄) :
    bigSep Finset.univ Φ = bigSep Finset.univ fun j : Fin 3 => bigSep Finset.univ fun s : Fin 3 => Φ (s, j - s) :=
  (bigSep_univ_equiv bySide Φ).trans (bigSep_univ_prod _)

variable (c : Dev nD)

omit [FloatOps F] in
/-- A device's arrival slots, grouped by the partner that writes into them; … -/
theorem hand : (bigSep Finset.univ fun x : Slot => room (F := F) c cmB (slotRect x))
    ⊢ iprop(meetPay (F := F) (peer 0 c) 0 ∗ meetPay (F := F) (peer 1 c) 1 ∗ meetPay (F := F) (peer 2 c) 2) := by
  rw [by_side, three]
  unfold meetPay
  simp only [peer_peer]
  iintro H; iexact H

omit [FloatOps F] in
theorem dir_sub (j s : Fin 3) : dir (s, j - s) = j := by revert j s; decide

omit [FloatOps F] in
/-- … and the partners' slots it writes into. -/
theorem taken : (bigSep Finset.univ fun j : Fin 3 => meetPay (F := F) c j)
    ⊢ bigSep Finset.univ fun x : Slot => room (F := F) (peer (dir x) c) cmB (slotRect x) := by
  rw [by_side]
  simp only [dir_sub]
  unfold meetPay
  iintro H; iexact H

variable (m : (ℓ : Loc nD τ sig) → Buf (Elt F) ℓ) (K : Dev nD × CK → ℕ)

/-- A cell past its only round is done with: its semaphore, at zero, is its device's again. -/
theorem close (k : CK) : iprop(known m K ∗ atPos ER (kcell (c, k)) 1 ∅ 0) ⊢ iprop(|={Set.univ}=> semVal (kcell (c, k)) 0) := by
  iintro ⟨#HK, Ha⟩
  iapply (Rounds.cell_close ER (sched m) (Set.mem_univ (K (c, k))) (fun h => h) (R := 1) (duties_later m (kcell (c, k))))
  isplitr; · iapply (known_inv m K (c, k)); iexact HK
  iexact Ha

/-- What a slot leaves behind once both its cells are closed. -/
def over (x : Slot) : sProp 𝕄 :=
  iprop((semVal (sendCell c x) 0 ∗ semVal (recvCell c x) 0) ∗ room (F := F) c stB (slotRect x) ∗ room (F := F) c cmB (slotRect x))

theorem through_over (x : Slot) : iprop(known m K ∗ through (F := F) c x) ⊢ iprop(|={Set.univ}=> over (F := F) c x) := by
  unfold through over
  iintro ⟨#HK, Ha, Ha', Hs, Hr⟩
  imod (close c m K (some (false, x))) $$ [Ha] with Hz
  · isplitr; · iexact HK
    iexact Ha
  imod (close c m K (some (true, x))) $$ [Ha'] with Hz'
  · isplitr; · iexact HK
    iexact Ha'
  imodintro
  isplitl [Hz Hz']
  · isplitl [Hz]; · iexact Hz
    iexact Hz'
  isplitl [Hs] <;> iassumption

omit [FloatOps F] in
/-- All slots' ends taken apart by kind. -/
theorem over_split : (bigSep Finset.univ fun x : Slot => over (F := F) c x)
    ⊢ iprop((bigSep Finset.univ fun x : Slot => iprop(semVal (sendCell c x) 0 ∗ semVal (recvCell c x) 0))
      ∗ (bigSep Finset.univ fun x : Slot => room (F := F) c stB (slotRect x)) ∗ bigSep Finset.univ fun x : Slot => room (F := F) c cmB (slotRect x)) := by
  unfold over
  rw [bigSep_sep', bigSep_sep' _ (fun x : Slot => room (F := F) c stB (slotRect x))]

theorem all_over : iprop(known m K ∗ bigSep Finset.univ fun x : Slot => through (F := F) c x)
    ⊢ iprop(|={Set.univ}=> bigSep Finset.univ fun x : Slot => over (F := F) c x) := by
  refine BIBase.Entails.trans ?_ (bigSep_fupd _ _)
  refine BIBase.Entails.trans (BIClass.sep_mono (bigSep_of_persistent (Finset.univ : Finset Slot) (known m K)) .rfl) ?_
  rw [← bigSep_sep']
  exact each (through_over c m K)

end Cert.Butterfly

end
-- ==== Proof.Holdings.lean ====
/-
What a device holds when its program starts and when it ends: its arguments, its slots, the result.
-/
module

public import proofs.«01_k».proof.Proof.Ends
public import proofs.«01_k».proof.Proof.Gen.KernelIdeal.Skeleton

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CK → ℕ) (c : Dev nD)

theorem load_inb (i : Fin 4) : ∀ a, (![i.val] : Fin 1 → ℕ) a + S1.size a ≤ S4.size a := by revert i; decide

/-- The semaphores of the arguments' copies. -/
abbrev loadS (i : Fin 4) : DmaSem sig := ((cc0_scratch6.slice (Rect.unit (s := S4) ![i.val] S1.size (load_inb i))).squeeze S_ squeezes_S1_S_).sem

theorem loadS_lt (i : Fin 4) : (loadS i).val < 14 := by revert i; decide +kernel

/-- An argument in main memory, the buffer for its copy, and the copy's semaphore. -/
def waiting {s : Shape} {e : EltTy} (src : Memref sig .tc .hbm s e) (dst : Memref sig .tc .vmem s e) (q : DmaSem sig)
    (fs : Buf (Elt F) (src.view.loc (c : Thread nD τ))) : sProp 𝕄 :=
  iprop((src.view.loc (c : Thread nD τ) ↦[src.view.set]{fullShare} fs)
    ∗ (∃ fd, dst.view.loc (c : Thread nD τ) ↦[dst.view.set]{fullShare} fd) ∗ semVal ((c : Thread nD τ), .dma q) 0)

/-- The four arguments. -/
def args : sProp 𝕄 :=
  iprop(waiting c (Memref.whole main_arg0) (Memref.whole cc0_scratch0) (loadS 0) (m ((c : Thread nD τ).loc main_arg0))
    ∗ waiting c (Memref.whole main_arg1) (Memref.whole cc0_scratch1) (loadS 1) (m ((c : Thread nD τ).loc main_arg1))
    ∗ waiting c (Memref.whole main_arg2) (Memref.whole cc0_scratch2) (loadS 2) (m ((c : Thread nD τ).loc main_arg2))
    ∗ waiting c (Memref.whole main_arg3) (Memref.whole cc0_scratch3) (loadS 3) (m ((c : Thread nD τ).loc main_arg3)))

/-- What a device brings to a slot: the tokens for its transfer, the positions at its two cells, the credit of the arrival. -/
def kit (x : Slot) : sProp 𝕄 :=
  iprop(dutyTok ER (sendCell c x) 0 the ∗ dutyTok ER (recvCell (peer (dir x) c) x) 0 the
    ∗ atPos ER (sendCell c x) 0 ∅ 0 ∗ atPos ER (recvCell c x) 0 ∅ 0 ∗ cred (tallyAt (recvCell c x) () (amt x)))

/-- What a device brings to the meeting. -/
def invited : sProp 𝕄 :=
  iprop((dutyTok ER (barCell (peer 0 c)) 0 0 ∗ dutyTok ER (barCell (peer 1 c)) 0 1 ∗ dutyTok ER (barCell (peer 2 c)) 0 2)
    ∗ atPos ER (barCell c) 0 ∅ 0 ∗ cred (tallyAt (barCell c) () 3))

/-- A buffer, whatever is in it. -/
def any {s : Shape} {e : EltTy} (B : Memref sig .tc .vmem s e) : sProp 𝕄 := iprop(∃ f, B.view.loc (c : Thread nD τ) ↦[B.view.set]{fullShare} f)

omit [FloatOps F] in
theorem all_ready : iprop((bigSep Finset.univ fun x : Slot => kit (F := F) c x) ∗ bigSep Finset.univ fun x : Slot => room (F := F) c stB (slotRect x))
    ⊢ bigSep Finset.univ fun x : Slot => ready (F := F) c x := by
  rw [← bigSep_sep']
  refine each fun x => ?_
  unfold kit ready
  iintro ⟨⟨H1, H2, H3, H4, H5⟩, H6⟩
  isplitl [H1]; · iexact H1
  isplitl [H2]; · iexact H2
  isplitl [H3]; · iexact H3
  isplitl [H4]; · iexact H4
  isplitl [H5] <;> iassumption

theorem fetch_arg {α : Type} {s : Shape} {e : EltTy} {src : Memref sig .tc .hbm s e} {dst : Memref sig .tc .vmem s e} {q : DmaSem sig}
    (hs : 0 < s.numel) {fs : Buf (Elt F) (src.view.loc (c : Thread nD τ))} {Q : α → sProp 𝕄}
    {h1 : src.view.WordExact} {h2 : dst.view.WordExact} {h3 : (DmaTarget.here dst : DmaTarget nD τ sig .tc .vmem s e).Typed .hbm (.dma q)}
    {k : PUnit → Prog (TpuEff nD τ sig (Elt F) Λ₀ .tc) α} :
    waiting c src dst q fs ⊢ iprop((coming c src dst q fs -∗ run c (k ⟨⟩) Q) -∗ run c (.op (.enqueueDma src (.here dst) (.dma q) h1 h2 h3) k) Q) :=
  fetch c hs fs

omit [FloatOps F] in
/-- After its copy has been read an argument waits as before. -/
theorem read_over {s : Shape} {e : EltTy} {src : Memref sig .tc .hbm s e} {dst : Memref sig .tc .vmem s e} {q : DmaSem sig}
    {fs : Buf (Elt F) (src.view.loc (c : Thread nD τ))} {u : s.Idx → Elt F e} :
    iprop(holds c dst u ∗ (src.view.loc (c : Thread nD τ) ↦[src.view.set]{fullShare} fs) ∗ semVal ((c : Thread nD τ), .dma q) 0)
      ⊢ waiting c src dst q fs := by
  unfold holds waiting
  iintro ⟨⟨%f, -, Hd⟩, Hs, Hv⟩
  isplitl [Hs]; · iexact Hs
  isplitl [Hd]; · iexists f; iexact Hd
  iexact Hv

theorem off_zero : (![0, 0] : Fin 2 → ℕ) = fun _ => 0 := by decide

/-- The result's buffer, by streams. -/
theorem cut_out : holds c outB (part0 m c) ⊢ iprop((partway m c 0 0 ∗ partway m c 1 0 ∗ partway m c 2 0) ∗ margin (F := F) c outB chunkRect) := by
  unfold holds
  iintro ⟨%f, %hf, H⟩
  have hf : f = part0 m c := hf
  subst hf
  ihave H := (cut c outB chunkRect (fun i j h => chunkRect_disjoint h) (part0 m c)) $$ H
  rw [three]
  iexact H

theorem glue_out : iprop((partway m c 0 3 ∗ partway m c 1 3 ∗ partway m c 2 3) ∗ margin (F := F) c outB chunkRect)
    ⊢ holds c outB (result m c) := by
  have h := glue c outB chunkRect (fun i j h => chunkRect_disjoint h) (fun s => acc m s 3 c)
  rw [three] at h
  refine BIBase.Entails.trans h ?_
  unfold holds
  iintro ⟨%g, %hg, H⟩
  iexists g; isplitr
  · ipureintro
    funext i
    refine Eq.trans ?_ (congrFun (hg (streamOf (i 0).val)) (posIn i))
    show g i = g ((chunkRect (streamOf (i 0).val)).emb (posIn i))
    rw [emb_posIn]
  iexact H

/-- The slots' semaphores at the end. -/
def quiet (x : Slot) : sProp 𝕄 := iprop(semVal (sendCell c x) 0 ∗ semVal (recvCell c x) 0)

end Cert.Butterfly

end
-- ==== Proof.Body.lean ====
/-
The program of one device, from its first copy to its last store.
-/
module

public import proofs.«01_k».proof.Proof.Holdings

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CK → ℕ) (c : Dev nD)

set_option maxRecDepth 65536 in
set_option maxHeartbeats 4000000 in
theorem program {Q : PUnit → sProp 𝕄} :
    iprop(known m K ∗ args m c ∗ invited (F := F) c ∗ (bigSep Finset.univ fun x : Slot => kit (F := F) c x)
        ∗ any (F := F) c stB ∗ any (F := F) c cmB ∗ any (F := F) c outB ∗ owing c (O₀ c))
      ⊢ iprop(((args m c ∗ semVal (barCell c) 0 ∗ (bigSep Finset.univ fun x : Slot => quiet (F := F) c x)
            ∗ any (F := F) c stB ∗ any (F := F) c cmB ∗ holds c outB (result m c) ∗ owing c 0) -∗ Q ⟨⟩)
          -∗ run c (cc0_body (Memref.whole main_arg0) (Memref.isWhole_whole _) (Memref.whole main_arg1) (Memref.isWhole_whole _)
            (Memref.whole main_arg2) (Memref.isWhole_whole _) (Memref.whole main_arg3) (Memref.isWhole_whole _)
            (Memref.whole cc0_stg0_0) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) cc0_scratch6 cc0_scratch7 cc0_scratch8) Q) := by
  simp only [cc0_body_eq_skeleton]
  unfold cc0_body_skel
  simp only [k0_part16_eq_skeleton]
  unfold k0_part16_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel
  simp only [semSignalWord, semWaitWord, Prog.lift, Prog.bind_op, Prog.bind_ret, Prog.pure_eq_ret, wp_deviceId]
  unfold args invited
  iintro ⟨#HK, ⟨HA, HB, HC, HD⟩, ⟨⟨Ht0, Ht1, Ht2⟩, Hat, Hcr⟩, Hkit, Hst, Hcm, Hout, HO⟩ Hk
  iapply (fetch_arg c (by decide)) $$ HA; iintro HA
  iapply (fetch_arg c (by decide)) $$ HB; iintro HB
  iapply (fetch_arg c (by decide)) $$ HC; iintro HC
  iapply (fetch_arg c (by decide)) $$ HD; iintro HD
  -- the meeting: each partner is handed its slots of the arrival buffer
  unfold any
  ihave Hcm := (cut_rooms c cmB slotRect (fun x y h => slotRect_disjoint h)) $$ Hcm
  icases Hcm with ⟨Hcm, Hcmm⟩
  ihave Hcm := (hand c) $$ Hcm
  icases Hcm with ⟨Hp0, Hp1, Hp2⟩
  iapply (raise m K c 0 (dev1_eq c) rfl (O' := O₀ c) (O₁ c) rfl) $$ HK Hp0 Ht0 HO
  iintro HO
  iapply (raise m K c 1 (dev2_eq c) rfl (O' := O₁ c) (O₂ c) rfl) $$ HK Hp1 Ht1 HO
  iintro HO
  iapply (raise m K c 2 (dev3_eq c) rfl (O' := O₂ c) (due c order) rfl) $$ HK Hp2 Ht2 HO
  iintro HO
  iapply (meet m K c rfl order) $$ [Hcr Hat HO]
  · isplitr; · iexact HK
    isplitl [Hcr]; · iexact Hcr
    isplitl [Hat] <;> iassumption
  iintro ⟨Hat, Hroom, HO⟩
  ihave Hroom := (taken c) $$ Hroom
  -- the arguments arrive
  iapply (fetched m K c (loadS_lt 0) order) $$ HK HA HO
  iintro ⟨HA, HA', HA'', HO⟩
  iapply (fetched m K c (loadS_lt 1) order) $$ HK HB HO
  iintro ⟨HB, HB', HB'', HO⟩
  iapply (fetched m K c (loadS_lt 2) order) $$ HK HC HO
  iintro ⟨HC, HC', HC'', HO⟩
  iapply (fetched m K c (loadS_lt 3) order) $$ HK HD HO
  iintro ⟨HD, HD', HD'', HO⟩
  iapply (read_holds c (fun f => Memref.readAt_unit_zero (Elt F) cc0_scratch0 off_zero _ f)) $$ HA; iintro HA
  iapply (read_holds c (fun f => Memref.readAt_unit_zero (Elt F) cc0_scratch1 off_zero _ f)) $$ HB; iintro HB
  iapply (read_holds c (fun f => Memref.readAt_unit_zero (Elt F) cc0_scratch2 off_zero _ f)) $$ HC; iintro HC
  iapply (read_holds c (fun f => Memref.readAt_unit_zero (Elt F) cc0_scratch3 off_zero _ f)) $$ HD; iintro HD
  iapply (fill_all c (dst := outB) (off := ![0, 0]) (inb := inb_S256x256_S256x256_0_0) (inb' := inb_S256x256_S256x256_0_0) (w := part0 m c)
    (fun f => Memref.write_access_unit_zero_univ (Elt F) cc0_stg0_0 off_zero inb_S256x256_S256x256_0_0 f (part0 m c))) $$ Hout
  iintro Hout
  -- the slots
  ihave Hout := (cut_out m c) $$ Hout
  icases Hout with ⟨⟨Ho0, Ho1, Ho2⟩, Hom⟩
  ihave Hst := (cut_rooms c stB slotRect (fun x y h => slotRect_disjoint h)) $$ Hst
  icases Hst with ⟨Hst, Hstm⟩
  ihave Hready := (all_ready c) $$ [Hkit Hst]
  · isplitl [Hkit] <;> iassumption
  ihave Hready := (Entails.of_eq (nine _)) $$ Hready
  icases Hready with ⟨Hr00, Hr10, Hr20, Hr01, Hr11, Hr21, Hr02, Hr12, Hr22⟩
  ihave Hroom := (Entails.of_eq (nine _)) $$ Hroom
  icases Hroom with ⟨Hd00, Hd10, Hd20, Hd01, Hd11, Hd21, Hd02, Hd12, Hd22⟩
  iapply (read_piece c) $$ Ho0; iintro Ho0
  iapply (sendOff m K c (0, 0) [(1, 0), (2, 0), (0, 1), (1, 1), (2, 1), (0, 2), (1, 2), (2, 2)] (dev4_eq c) rfl) $$ HK Hr00 Hd00 HO
  iintro ⟨Hf00, HO⟩
  iapply (read_piece c) $$ Ho1; iintro Ho1
  iapply (sendOff m K c (1, 0) [(2, 0), (0, 1), (1, 1), (2, 1), (0, 2), (1, 2), (2, 2)] (dev5_eq c) rfl) $$ HK Hr10 Hd10 HO
  iintro ⟨Hf10, HO⟩
  iapply (read_piece c) $$ Ho2; iintro Ho2
  iapply (sendOff m K c (2, 0) [(0, 1), (1, 1), (2, 1), (0, 2), (1, 2), (2, 2)] (dev6_eq c) rfl) $$ HK Hr20 Hd20 HO
  iintro ⟨Hf20, HO⟩
  iapply (takeIn m K c (0, 0) [(0, 1), (1, 1), (2, 1), (0, 2), (1, 2), (2, 2)] (by decide) (s := 0) rfl (n := 0) rfl (fun _ _ => rfl)) $$ HK Hf00 Ho0 HO
  iintro ⟨Hu00, Ho0, HO⟩
  iapply (sendOff m K c (0, 1) [(1, 1), (2, 1), (0, 2), (1, 2), (2, 2)] (dev7_eq c) ((pack_of_merge0 _ _).trans (congrArg (pack 0) (acc_succ m (0, 0) c).symm))) $$ HK Hr01 Hd01 HO
  iintro ⟨Hf01, HO⟩
  iapply (takeIn m K c (1, 0) [(1, 1), (2, 1), (0, 2), (1, 2), (2, 2)] (by decide) (s := 1) rfl (n := 0) rfl (fun _ _ => rfl)) $$ HK Hf10 Ho1 HO
  iintro ⟨Hu10, Ho1, HO⟩
  iapply (sendOff m K c (1, 1) [(2, 1), (0, 2), (1, 2), (2, 2)] (dev8_eq c) ((pack_of_merge1 _ _).trans (congrArg (pack 1) (acc_succ m (1, 0) c).symm))) $$ HK Hr11 Hd11 HO
  iintro ⟨Hf11, HO⟩
  iapply (takeIn m K c (2, 0) [(2, 1), (0, 2), (1, 2), (2, 2)] (by decide) (s := 2) rfl (n := 0) rfl (fun _ _ => rfl)) $$ HK Hf20 Ho2 HO
  iintro ⟨Hu20, Ho2, HO⟩
  iapply (sendOff m K c (2, 1) [(0, 2), (1, 2), (2, 2)] (dev9_eq c) ((pack_of_merge2 _ _).trans (congrArg (pack 2) (acc_succ m (2, 0) c).symm))) $$ HK Hr21 Hd21 HO
  iintro ⟨Hf21, HO⟩
  iapply (takeIn m K c (0, 1) [(0, 2), (1, 2), (2, 2)] (by decide) (s := 0) rfl (n := 1) rfl (fun _ _ => rfl)) $$ HK Hf01 Ho0 HO
  iintro ⟨Hu01, Ho0, HO⟩
  iapply (sendOff m K c (0, 2) [(1, 2), (2, 2)] (dev10_eq c) ((pack_of_merge0 _ _).trans (congrArg (pack 0) (acc_succ m (0, 1) c).symm))) $$ HK Hr02 Hd02 HO
  iintro ⟨Hf02, HO⟩
  iapply (takeIn m K c (1, 1) [(1, 2), (2, 2)] (by decide) (s := 1) rfl (n := 1) rfl (fun _ _ => rfl)) $$ HK Hf11 Ho1 HO
  iintro ⟨Hu11, Ho1, HO⟩
  iapply (sendOff m K c (1, 2) [(2, 2)] (dev11_eq c) ((pack_of_merge1 _ _).trans (congrArg (pack 1) (acc_succ m (1, 1) c).symm))) $$ HK Hr12 Hd12 HO
  iintro ⟨Hf12, HO⟩
  iapply (takeIn m K c (2, 1) [(2, 2)] (by decide) (s := 2) rfl (n := 1) rfl (fun _ _ => rfl)) $$ HK Hf21 Ho2 HO
  iintro ⟨Hu21, Ho2, HO⟩
  iapply (sendOff m K c (2, 2) [] (dev12_eq c) ((pack_of_merge2 _ _).trans (congrArg (pack 2) (acc_succ m (2, 1) c).symm))) $$ HK Hr22 Hd22 HO
  iintro ⟨Hf22, HO⟩
  iapply (takeIn m K c (0, 2) [] (by decide) (s := 0) rfl (n := 2) rfl (fun _ _ => rfl)) $$ HK Hf02 Ho0 HO
  iintro ⟨Hu02, Ho0, HO⟩
  iapply (takeIn m K c (1, 2) [] (by decide) (s := 1) rfl (n := 2) rfl (fun _ _ => rfl)) $$ HK Hf12 Ho1 HO
  iintro ⟨Hu12, Ho1, HO⟩
  iapply (takeIn m K c (2, 2) [] (by decide) (s := 2) rfl (n := 2) rfl (fun _ _ => rfl)) $$ HK Hf22 Ho2 HO
  iintro ⟨Hu22, Ho2, HO⟩
  -- the end: every cell is closed, every buffer put together
  imod (close c m K none) $$ [Hat] with Hz
  · isplitr; · iexact HK
    iexact Hat
  imod (all_over c m K) $$ [Hu00 Hu10 Hu20 Hu01 Hu11 Hu21 Hu02 Hu12 Hu22] with Hu
  · isplitr; · iexact HK
    iapply (Entails.of_eq (nine _).symm)
    isplitl [Hu00]; · iexact Hu00
    isplitl [Hu10]; · iexact Hu10
    isplitl [Hu20]; · iexact Hu20
    isplitl [Hu01]; · iexact Hu01
    isplitl [Hu11]; · iexact Hu11
    isplitl [Hu21]; · iexact Hu21
    isplitl [Hu02]; · iexact Hu02
    isplitl [Hu12] <;> iassumption
  ihave Hu := (over_split c) $$ Hu
  icases Hu with ⟨Hq, Hst, Hcm⟩
  rw [wp_ret]; imodintro
  iapply Hk
  isplitl [HA HA' HA'' HB HB' HB'' HC HC' HC'' HD HD' HD'']
  · isplitl [HA HA' HA'']
    · iapply (read_over c)
      isplitl [HA]; · iexact HA
      isplitl [HA'] <;> iassumption
    isplitl [HB HB' HB'']
    · iapply (read_over c)
      isplitl [HB]; · iexact HB
      isplitl [HB'] <;> iassumption
    isplitl [HC HC' HC'']
    · iapply (read_over c)
      isplitl [HC]; · iexact HC
      isplitl [HC'] <;> iassumption
    iapply (read_over c)
    isplitl [HD]; · iexact HD
    isplitl [HD'] <;> iassumption
  isplitl [Hz]; · iexact Hz
  isplitl [Hq]; · iexact Hq
  isplitl [Hst Hstm]
  · iapply (glue_rooms c stB slotRect (fun x y h => slotRect_disjoint h))
    isplitl [Hst] <;> iassumption
  isplitl [Hcm Hcmm]
  · iapply (glue_rooms c cmB slotRect (fun x y h => slotRect_disjoint h))
    isplitl [Hcm] <;> iassumption
  isplitl [Ho0 Ho1 Ho2 Hom]
  · iapply (glue_out m c)
    isplitr [Hom]
    · isplitl [Ho0]; · iexact Ho0
      isplitl [Ho1]; · iexact Ho1
      iexact Ho2
    iexact Hom
  iexact HO

end Cert.Butterfly

end
-- ==== Proof.Owed.lean ====
/-
What the launch owes each cell, added up over the devices: three raises at a meeting cell, one transfer at each
receive cell.
-/
module

public import proofs.«01_k».proof.Proof.Steps
public import proofs.«01_k».proof.Proof.Gen.KernelIdeal.Launch

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

theorem csem_injective : Function.Injective csem := by
  have hs : Function.Injective sendS := fun x y h => by
    rw [← send_no x, ← send_no y, h]
  have hr : Function.Injective recvS := fun x y h => by
    rw [← recv_no x, ← recv_no y, h]
  have hsr : ∀ x y, sendS x ≠ recvS y := fun x y h => by
    have h1 := send_lt x; have h2 := recv_ge y; rw [h] at h1; omega
  rintro (_ | ⟨_ | _, x⟩) (_ | ⟨_ | _, y⟩) h
  · rfl
  · cases h
  · cases h
  · cases h
  · rw [hs (SemLoc.dma.inj h)]
  · exact absurd (SemLoc.dma.inj h) (hsr x y)
  · cases h
  · exact absurd (SemLoc.dma.inj h).symm (hsr y x)
  · rw [hr (SemLoc.dma.inj h)]

theorem kcell_injective : Function.Injective kcell := by
  rintro ⟨c, k⟩ ⟨d, l⟩ h
  have h1 : c = d := congrArg (fun g : GSem nD τ sig => g.1.1) h
  have h2 : k = l := csem_injective (congrArg Prod.snd h)
  rw [h1, h2]

/-- A debt of one cell read at another. -/
theorem tally_at (c d : Dev nD) (k l : CK) (n : ℕ) :
    (tallyAt (kcell (c, k)) () n : CellTallies nD τ sig Unit) (kcell (d, l)) () = if d = c ∧ l = k then n else 0 := by
  rw [tallyAt_apply]
  by_cases h : d = c ∧ l = k
  · obtain ⟨rfl, rfl⟩ := h; rw [if_pos ⟨rfl, rfl⟩, if_pos ⟨rfl, rfl⟩]
  · rw [if_neg h, if_neg fun h' => h (Prod.mk.inj (kcell_injective h'.1))]

theorem due_at (d c : Dev nD) (k : CK) (l : List Slot) :
    due d l (kcell (c, k)) () = (l.map fun x => if c = peer (dir x) d ∧ k = some (true, x) then amt x else 0).sum := by
  induction l with
  | nil => rfl
  | cons x l ih =>
    rw [due, Pi.add_apply, Finsupp.add_apply, ih, List.map_cons, List.sum_cons, Nat.add_comm]
    exact congrArg (· + _) (tally_at (peer (dir x) d) c (some (true, x)) k (amt x))

theorem due_bar (d c : Dev nD) (l : List Slot) : due d l (barCell c) () = 0 := by
  refine (due_at d c none l).trans (List.sum_eq_zero fun n hn => ?_)
  obtain ⟨x, -, rfl⟩ := List.mem_map.mp hn
  exact if_neg fun h => by cases h.2

theorem sum_at {α : Type} [DecidableEq α] [BEq α] [LawfulBEq α] (x : α) (n : ℕ) (l : List α) : (l.map fun y => if y = x then n else 0).sum = l.count x * n := by
  induction l with
  | nil => exact (Nat.zero_mul n).symm
  | cons y l ih =>
    rw [List.map_cons, List.sum_cons, ih, List.count_cons]
    by_cases h : y = x
    · subst h; simp [Nat.add_mul, Nat.add_comm]
    · simp [h]

theorem due_recv (d c : Dev nD) (x : Slot) : due d order (recvCell c x) () = if d = peer (dir x) c then amt x else 0 := by
  refine (due_at d c (some (true, x)) order).trans ?_
  have hx : ∀ y : Slot, (if c = peer (dir y) d ∧ (some (true, x) : CK) = some (true, y) then amt y else 0)
      = if y = x then (if d = peer (dir x) c then amt x else 0) else 0 := fun y => by
    by_cases h : x = y
    · subst h
      rw [if_pos rfl]
      exact if_congr ⟨fun h => by rw [h.1, peer_peer], fun h => ⟨by rw [h, peer_peer], rfl⟩⟩ rfl rfl
    · rw [if_neg fun h' => h (Prod.mk.inj (Option.some.inj h'.2)).2, if_neg fun e => h e.symm]
  rw [funext hx, sum_at]
  rw [show order.count x = 1 by clear hx; revert x; decide, Nat.one_mul]

theorem owed_bar (d c : Dev nD) : O₀ d (barCell c) () = ∑ j : Fin 3, if d = peer j c then 1 else 0 := by
  have h (j : Fin 3) : (tallyAt (barCell (peer j d)) () 1 : CellTallies nD τ sig Unit) (barCell c) () = if d = peer j c then 1 else 0 :=
    (tally_at (peer j d) c none none 1).trans (if_congr ⟨fun h => by rw [h.1, peer_peer], fun h => ⟨by rw [h, peer_peer], rfl⟩⟩ rfl rfl)
  unfold O₀ O₁ O₂
  simp only [Pi.add_apply, Finsupp.add_apply, h, due_bar, Fin.sum_univ_three]
  omega

theorem owed_recv (d c : Dev nD) (x : Slot) : O₀ d (recvCell c x) () = if d = peer (dir x) c then amt x else 0 := by
  have h (j : Fin 3) : (tallyAt (barCell (peer j d)) () 1 : CellTallies nD τ sig Unit) (recvCell c x) () = 0 :=
    (tally_at (peer j d) c none (some (true, x)) 1).trans (if_neg fun h => by cases h.2)
  unfold O₀ O₁ O₂
  simp only [Pi.add_apply, Finsupp.add_apply, h, due_recv, Nat.add_zero]

theorem credit_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm]
  simp only [Finset.sum_ite_eq', Finset.mem_univ, if_true]
  rfl

theorem credit_recv (c : Dev nD) (x : Slot) :
    tallyOn (recvCell c x) (launchCredit (Pipeline.owing O₀) 0 (recvCell c x))
      = (tallyAt (recvCell c x) () (amt x) : CellTallies nD τ sig Unit) := by
  unfold tallyAt; refine congrArg _ (Finsupp.ext fun u => ?_); cases u
  rw [Pipeline.launchCredit_owing, Finsupp.single_eq_same, Finset.sum_congr rfl fun d _ => owed_recv d c x]
  simp only [Finset.sum_ite_eq', Finset.mem_univ, if_true]

/-- The cells that others pay: the meeting cell and the receive cells. -/
def paidKind : Option Slot → CK
  | none => none
  | some x => some (true, x)

theorem paidKind_injective : Function.Injective paidKind := by
  rintro (_ | x) (_ | y) h
  · rfl
  · cases h
  · cases h
  · injection h with h; injection h with _ h; rw [h]

omit [FloatOps F] in
/-- A product over an option type: the missing value, and the others. -/
theorem by_option {α : Type} [Fintype α] (Φ : Option α → sProp 𝕄) :
    bigSep Finset.univ Φ = iprop(Φ none ∗ bigSep Finset.univ fun x : α => Φ (some x)) := by
  rw [bigSep_univ_equiv ((Equiv.sumComm PUnit.{1} α).trans (Equiv.optionEquivSumPUnit.{0} α).symm) Φ, bigSep_univ_sum, bigSep_univ_of_subsingleton (⟨⟩ : PUnit.{1})]
  rfl

omit [FloatOps F] in
theorem credits (c : Dev nD) : (Pipeline.launchCred O₀ c : sProp 𝕄)
    ⊢ iprop(cred (tallyAt (barCell c) () 3) ∗ bigSep Finset.univ fun x : Slot => cred (tallyAt (recvCell c x) () (amt x))) := by
  unfold Pipeline.launchCred
  refine BIBase.Entails.trans (bigSep_subset (Finset.subset_univ (Finset.univ.map ⟨fun k => csem (paidKind k), csem_injective.comp paidKind_injective⟩))) ?_
  rw [bigSep_map, by_option]
  show iprop(cred (tallyOn (barCell c) (launchCredit (Pipeline.owing O₀) 0 (barCell c)))
    ∗ bigSep Finset.univ fun x : Slot => cred (tallyOn (recvCell c x) (launchCredit (Pipeline.owing O₀) 0 (recvCell c x)))) ⊢ _
  rw [credit_bar]
  simp only [credit_recv]
  iintro H; iexact H

end Cert.Butterfly

end
-- ==== Proof.Deal.lean ====
/-
The launch's ghost state dealt to the devices: every cell's invariant is set up, every device gets the positions at its own
cells and the tokens of the duties it pays.
-/
module

public import proofs.«01_k».proof.Proof.Owed
public import proofs.«01_k».proof.Proof.Holdings

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## The cells and the tokens -/

def allCells : Finset (GSem nD τ sig) := Finset.univ.map ⟨kcell, kcell_injective⟩

/-- The duties of a device's cells: three at the meeting cell, one at each other. -/
abbrev TK : Type := Fin 3 ⊕ (Bool × Slot)

/-- A duty's cell and name. -/
def duty : TK → CK × Fin 3
  | .inl j => (none, j)
  | .inr k => (some k, the)

theorem duty_injective : Function.Injective duty := by
  rintro (i | k) (j | l) h
  · exact congrArg _ (Prod.mk.inj h).2
  · cases (Prod.mk.inj h).1
  · cases (Prod.mk.inj h).1
  · exact congrArg _ (Option.some.inj (Prod.mk.inj h).1)

def tokOf (p : Dev nD × TK) : GSem nD τ sig × ℕ × Fin 3 := (kcell (p.1, (duty p.2).1), 0, (duty p.2).2)

theorem tokOf_injective : Function.Injective tokOf := by
  rintro ⟨c, k⟩ ⟨d, l⟩ h
  have h1 := kcell_injective (Prod.mk.inj h).1
  have h2 : k = l := duty_injective (Prod.ext (Prod.mk.inj h1).2 (Prod.mk.inj (Prod.mk.inj h).2).2)
  have h3 : c = d := (Prod.mk.inj h1).1
  rw [h3, h2]

def allToks : Finset (GSem nD τ sig × ℕ × Fin 3) := Finset.univ.map ⟨tokOf, tokOf_injective⟩

/-- The tokens of device `c`'s own cells. -/
def minted (c : Dev nD) : sProp 𝕄 :=
  iprop((bigSep Finset.univ fun j : Fin 3 => dutyTok ER (barCell c) 0 j)
    ∗ (bigSep Finset.univ fun x : Slot => dutyTok ER (sendCell c x) 0 the) ∗ (bigSep Finset.univ fun x : Slot => dutyTok ER (recvCell c x) 0 the))

/-- The tokens of the duties device `c` pays. -/
def dealt (c : Dev nD) : sProp 𝕄 :=
  iprop((bigSep Finset.univ fun j : Fin 3 => dutyTok ER (barCell (peer j c)) 0 j)
    ∗ (bigSep Finset.univ fun x : Slot => dutyTok ER (sendCell c x) 0 the)
    ∗ (bigSep Finset.univ fun x : Slot => dutyTok ER (recvCell (peer (dir x) c) x) 0 the))

omit [FloatOps F] in
theorem by_flag (Φ : Bool × Slot → sProp 𝕄) :
    bigSep Finset.univ Φ = iprop((bigSep Finset.univ fun x : Slot => Φ (false, x)) ∗ bigSep Finset.univ fun x : Slot => Φ (true, x)) := by
  rw [bigSep_univ_prod, bigSep_univ_eq_bigSepL [false, true] (by decide) (by decide)]; rfl

omit [FloatOps F] in
/-- Something at a partner of every device is something at every device. -/
theorem at_peers {α : Type} [Fintype α] (j : α → Fin 3) (Φ : α → Dev nD → sProp 𝕄) :
    (bigSep Finset.univ fun c : Dev nD => bigSep Finset.univ fun a => Φ a c) = bigSep Finset.univ fun c : Dev nD => bigSep Finset.univ fun a => Φ a (peer (j a) c) := by
  rw [bigSep_univ_comm, bigSep_univ_comm (fun (c : Dev nD) (a : α) => Φ a (peer (j a) c))]
  exact bigSep_congr fun a _ => bigSep_univ_equiv (swap (j a)) (Φ a)

omit [FloatOps F] in
theorem deal : (bigSep Finset.univ fun c : Dev nD => (minted c : sProp 𝕄)) = bigSep Finset.univ fun c : Dev nD => dealt c := by
  unfold minted dealt
  rw [bigSep_sep', bigSep_sep', bigSep_sep', bigSep_sep', at_peers id (fun j c => (dutyTok ER (barCell c) 0 j : sProp 𝕄)),
    at_peers dir (fun x c => (dutyTok ER (recvCell c x) 0 the : sProp 𝕄))]
  rfl

/-! ## What the launch element gives each device -/

/-- The cells' states before any round, the positions, the rounds reached, the tokens. -/
def given (c : Dev nD) : sProp 𝕄 :=
  iprop((bigSep Finset.univ fun k : CK => roundState ER (sched m) (kcell (c, k)) 0)
    ∗ (bigSep Finset.univ fun k : CK => iprop(atPos ER (kcell (c, k)) 0 ∅ 0 ∗ reached ER (kcell (c, k)) 0)) ∗ minted c)

omit [FloatOps F] in
theorem over_cells (Φ : GSem nD τ sig → sProp 𝕄) :
    bigSep allCells Φ = bigSep Finset.univ fun c : Dev nD => bigSep Finset.univ fun k : CK => Φ (kcell (c, k)) := by
  unfold allCells; rw [bigSep_map, bigSep_univ_prod]; rfl

omit [FloatOps F] in
theorem over_toks : bigSep allToks (fun x => (dutyTok ER x.1 x.2.1 x.2.2 : sProp 𝕄)) = bigSep Finset.univ fun c : Dev nD => minted c := by
  unfold allToks; rw [bigSep_map, bigSep_univ_prod]
  refine bigSep_congr fun c _ => ?_
  rw [bigSep_univ_sum, by_flag]
  rfl

theorem endow : BI.own (ER (initOf allCells allToks)) ⊢ (|==> bigSep Finset.univ (given m) : sProp 𝕄) := by
  iintro HX
  imod (Rounds.fund ER (sched m) allCells allToks) $$ HX with ⟨Hst, Hr, Hat, Htok⟩
  imodintro
  ihave Hst := (Entails.of_eq (over_cells fun g => roundState ER (sched m) g 0)) $$ Hst
  ihave Hat := (Entails.of_eq (over_cells fun g => atPos ER g 0 ∅ 0)) $$ Hat
  ihave Hr := (Entails.of_eq (over_cells fun g => reached ER g 0)) $$ Hr
  ihave Htok := (Entails.of_eq over_toks) $$ Htok
  unfold given; simp only [bigSep_sep']
  isplitl [Hst]; · iexact Hst
  isplitl [Hat Hr]
  · isplitl [Hat] <;> iassumption
  iexact Htok

/-! ## The semaphores -/

/-- The kernel's own semaphores: of the arguments' copies, and the slots'. -/
abbrev osem : Fin 4 ⊕ (Bool × Slot) → SemLoc sig
  | .inl i => .dma (loadS i)
  | .inr k => csem (some k)

omit [FloatOps F] in
theorem own_sems (c : Dev nD) : (Pipeline.ownSems0 (Ix := Unit) (Name := ℕ) (U := UU) (Lvl := ℕ) (Val := Elt F) (τ := τ) osem c : sProp 𝕄)
    = iprop((bigSep Finset.univ fun i : Fin 4 => semVal ((c : Thread nD τ), .dma (loadS i)) 0)
      ∗ bigSep Finset.univ fun k : Bool × Slot => semVal (kcell (c, some k)) 0) := by
  unfold Pipeline.ownSems0
  rw [bigSep_univ_sum]; rfl

omit [FloatOps F] in
theorem free_sems (c : Dev nD) : (unscopedSems0 c : sProp 𝕄) = semVal (barCell c) 0 := by
  unfold unscopedSems0; rw [bigSep_eq_bigSepL_of_eq [SemLoc.reg barS] (by decide) (by decide)]; rfl

/-! ## The step that sets the cells up -/

/-- What device `c` gets for itself. -/
def portion (c : Dev nD) : sProp 𝕄 :=
  iprop((bigSep Finset.univ fun i : Fin 4 => semVal ((c : Thread nD τ), .dma (loadS i)) 0)
    ∗ (bigSep Finset.univ fun k : CK => atPos ER (kcell (c, k)) 0 ∅ 0) ∗ dealt c)

theorem set_up_one (c : Dev nD) :
    iprop(Pipeline.ownSems0 (Ix := Unit) (Name := ℕ) (U := UU) (Lvl := ℕ) (Val := Elt F) (τ := τ) osem c ∗ unscopedSems0 c ∗ given m c)
      ⊢ |={Set.univ}=> iprop((bigSep Finset.univ fun k : CK => iprop(∃ κ : ℕ, cellInv ER (sched m) κ (kcell (c, k))))
          ∗ (bigSep Finset.univ fun k : CK => reached ER (kcell (c, k)) 0)
          ∗ (bigSep Finset.univ fun i : Fin 4 => semVal ((c : Thread nD τ), .dma (loadS i)) 0)
          ∗ (bigSep Finset.univ fun k : CK => atPos ER (kcell (c, k)) 0 ∅ 0) ∗ minted c) := by
  have h : iprop((bigSep Finset.univ fun k : CK => semVal (kcell (c, k)) 0) ∗ bigSep Finset.univ fun k : CK => roundState ER (sched m) (kcell (c, k)) 0)
      ⊢ (|={Set.univ}=> bigSep Finset.univ fun k : CK => iprop(∃ κ : ℕ, cellInv ER (sched m) κ (kcell (c, k))) : sProp 𝕄) := by
    rw [← bigSep_sep']
    exact (bigSep_mono fun k _ => (Rounds.body_intro ER (sched m) (kcell (c, k))).trans inv_alloc).trans (bigSep_fupd _ _)
  rw [own_sems, free_sems]
  unfold given
  rw [bigSep_sep']
  iintro ⟨⟨Hl, Hs⟩, Hb, Hst, ⟨Hat, Hr⟩, Htok⟩
  imod h $$ [Hs Hb Hst] with Hinv
  · isplitr [Hst]
    · rw [by_option]
      isplitl [Hb] <;> iassumption
    · iexact Hst
  imodintro
  isplitl [Hinv]; · iexact Hinv
  isplitl [Hr]; · iexact Hr
  isplitl [Hl]; · iexact Hl
  isplitl [Hat]; · iexact Hat
  iexact Htok

/-- The invariants and the rounds reached, of all devices' cells. -/
def records (K : Dev nD × CK → ℕ) : sProp 𝕄 :=
  iprop((bigSep Finset.univ fun p : Dev nD × CK => cellInv ER (sched m) (K p) (kcell p))
    ∗ bigSep Finset.univ fun p : Dev nD × CK => reached ER (kcell p) 0)

instance records_persistent (K : Dev nD × CK → ℕ) : BI.Persistent (records m K) := by unfold records; infer_instance

/-- What a device starts with. -/
def started (c : Dev nD) : sProp 𝕄 := iprop((∃ K, records m K) ∗ portion c)

theorem set_up_all :
    (bigSep Finset.univ fun c : Dev nD => iprop((bigSep Finset.univ fun k : CK => iprop(∃ κ : ℕ, cellInv ER (sched m) κ (kcell (c, k))))
          ∗ (bigSep Finset.univ fun k : CK => reached ER (kcell (c, k)) 0)
          ∗ (bigSep Finset.univ fun i : Fin 4 => semVal ((c : Thread nD τ), .dma (loadS i)) 0)
          ∗ (bigSep Finset.univ fun k : CK => atPos ER (kcell (c, k)) 0 ∅ 0) ∗ minted c) : sProp 𝕄)
      ⊢ bigSep Finset.univ (started m) := by
  rw [bigSep_sep', bigSep_sep', bigSep_sep', bigSep_sep', deal,
    ← bigSep_univ_prod (fun p : Dev nD × CK => iprop(∃ κ : ℕ, cellInv ER (sched m) κ (kcell p))),
    ← bigSep_univ_prod (fun p : Dev nD × CK => (reached ER (kcell p) 0 : sProp 𝕄))]
  iintro ⟨HI, #HR, Hl, Hat, Htok⟩
  ihave HK := (BI.bigSep_exists_pi Finset.univ (fun (p : Dev nD × CK) (κ : ℕ) => (cellInv ER (sched m) κ (kcell p) : sProp 𝕄))) $$ HI
  icases HK with ⟨%K, #HI⟩
  unfold started portion
  rw [bigSep_sep', bigSep_sep', bigSep_sep']
  isplitr
  · iapply (BI.bigSep_of_persistent Finset.univ iprop(∃ K, records m K))
    iexists K; unfold records
    isplitl; · iexact HI
    iexact HR
  isplitl [Hl]; · iexact Hl
  isplitl [Hat]; · iexact Hat
  iexact Htok

theorem set_up : (bigSep Finset.univ fun c => iprop(Pipeline.ownSems0 (Ix := Unit) (Name := ℕ) (U := UU) (Lvl := ℕ) (Val := Elt F) (τ := τ) osem c
      ∗ unscopedSems0 c ∗ given m c) : sProp 𝕄)
    ⊢ |={Set.univ}=> bigSep Finset.univ (started m) :=
  ((bigSep_mono fun c _ => set_up_one m c).trans (bigSep_fupd _ _)).trans (BI.fupd_mono (set_up_all m))

/-- With its credits a device's portion is what it brings to the meeting and to the slots. -/
theorem equipped (c : Dev nD) : iprop(portion (F := F) c ∗ Pipeline.launchCred O₀ c)
    ⊢ iprop((bigSep Finset.univ fun i : Fin 4 => semVal ((c : Thread nD τ), .dma (loadS i)) 0) ∗ invited (F := F) c
      ∗ bigSep Finset.univ fun x : Slot => kit (F := F) c x) := by
  unfold portion dealt invited kit
  rw [by_option, by_flag, three]
  simp only [bigSep_sep']
  iintro ⟨⟨Hl, ⟨Hb, Hs, Hr⟩, H3, Hts, Htr⟩, Hcr⟩
  ihave Hcr := (credits c) $$ Hcr
  icases Hcr with ⟨Hc, Hcx⟩
  isplitl [Hl]; · iexact Hl
  isplitl [H3 Hb Hc]
  · isplitl [H3]; · iexact H3
    isplitl [Hb] <;> iassumption
  isplitl [Hts]; · iexact Hts
  isplitl [Htr]; · iexact Htr
  isplitl [Hs]; · iexact Hs
  isplitl [Hr] <;> iassumption

end Cert.Butterfly

end
-- ==== Proof.Launch.lean ====
/-
The run of the whole kernel on eight devices, for any float values: it ends, every device's result buffer holds `result`,
the arguments are as they were and every semaphore is at zero.
-/
module

public import proofs.«01_k».proof.Proof.Body
public import proofs.«01_k».proof.Proof.Deal
public import proofs.«01_k».proof.Proof.Gen.KernelIdeal.Launch
public import Idealize.ShloMosaic.Lib.Pipeline.CollectiveSegs

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Before and after the one grid point -/

/-- The arguments in main memory. -/
def inputs (c : Dev nD) : sProp 𝕄 :=
  iprop(((c : Thread nD τ).loc main_arg0 ↦{fullShare} m ((c : Thread nD τ).loc main_arg0))
    ∗ ((c : Thread nD τ).loc main_arg1 ↦{fullShare} m ((c : Thread nD τ).loc main_arg1))
    ∗ ((c : Thread nD τ).loc main_arg2 ↦{fullShare} m ((c : Thread nD τ).loc main_arg2))
    ∗ ((c : Thread nD τ).loc main_arg3 ↦{fullShare} m ((c : Thread nD τ).loc main_arg3)))

/-- What device `c` has before its scratch buffers come. -/
def opening (c : Dev nD) : sProp 𝕄 :=
  iprop((∃ K, known m K) ∗ inputs m c ∗ (bigSep Finset.univ fun i : Fin 4 => semVal ((c : Thread nD τ), .dma (loadS i)) 0)
    ∗ invited (F := F) c ∗ bigSep Finset.univ fun x : Slot => kit (F := F) c x)

def before (c : Dev nD) : sProp 𝕄 :=
  iprop((∃ K, known m K) ∗ args m c ∗ invited (F := F) c ∗ (bigSep Finset.univ fun x : Slot => kit (F := F) c x)
    ∗ any (F := F) c stB ∗ any (F := F) c cmB)

def afterwards (c : Dev nD) : sProp 𝕄 :=
  iprop(args m c ∗ semVal (barCell c) 0 ∗ (bigSep Finset.univ fun x : Slot => quiet (F := F) c x) ∗ any (F := F) c stB ∗ any (F := F) c cmB)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := m ((cfg0.win w).arr.view.loc (c : Thread nD τ))
  after w _ := match w with
    | ⟨0, _⟩ => result m c
  Φ t := match t with
    | ⟨0, _⟩ => before m c
    | ⟨_ + 1, _⟩ => afterwards m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The staging buffer of the result, at contents `X`. -/
abbrev staged (c : Dev nD) (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))

def pointPre (c : Dev nD) : sProp 𝕄 :=
  iprop(before m c ∗ (dats m 0 c).owesAt () t₀.castSucc ∗ (∃ d, staged c ((dats m 0 c).before (0 : Fin 1) t₀ d)))

def pointPost (c : Dev nD) : sProp 𝕄 :=
  iprop(afterwards m c ∗ (dats m 0 c).owesAt () t₀.succ ∗ staged c (result m c))

theorem owes_in (c : Dev nD) : (dats m 0 c).owesAt () t₀.castSucc ⊢ owing (F := F) c (O₀ c) := by
  unfold Dat.owesAt Pipeline.owesWithin owing
  iintro ⟨%W, %hW, HO⟩
  iexists W; iexact HO

theorem owes_out (c : Dev nD) : owing (F := F) c 0 ⊢ (dats m 0 c).owesAt () t₀.succ := by
  unfold Dat.owesAt Pipeline.owesWithin owing
  iintro ⟨%W, HO⟩
  iexists W
  isplitr; · ipureintro; exact fun _ _ => Or.inl trivial
  iexact HO

theorem staged_any (c : Dev nD) (X : (cc0_stg0_0 : Ref sig .tc).ty.Contents (Elt F)) : staged c X ⊢ any (F := F) c outB := by
  unfold any
  iintro ⟨%f, -, H⟩
  iexists f
  rw [show outB.view.set = Finset.univ from View.set_whole _]
  iexact H

theorem holds_staged (c : Dev nD) (X : (cc0_stg0_0 : Ref sig .tc).ty.Contents (Elt F)) : holds c outB X ⊢ staged c X := by
  unfold holds
  rw [show outB.view.set = Finset.univ from View.set_whole _]
  iintro ⟨%f, %hf, H⟩
  iexists f
  isplitr; · ipureintro; exact hf
  iexact H

set_option maxRecDepth 65536 in
theorem body_obligation (c : Dev nD) : BodyObligation (dats (F := F) m 0 c) (defs₀ (F := F)) 𝒱₀ () Set.univ := fun t => by
  rw [fin_N t, bigSep_W0, bigSep_W0]
  simp only [owns_whole_eq]
  show pointPre m c ⊢ run c (cc0_body (Memref.whole main_arg0) (Memref.isWhole_whole _) (Memref.whole main_arg1) (Memref.isWhole_whole _)
            (Memref.whole main_arg2) (Memref.isWhole_whole _) (Memref.whole main_arg3) (Memref.isWhole_whole _)
            (Memref.whole cc0_stg0_0) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) cc0_scratch6 cc0_scratch7 cc0_scratch8) (fun _ => pointPost m c)
  unfold pointPre before
  iintro ⟨⟨⟨%K, HK⟩, Ha, Hi, Hk, Hst, Hcm⟩, Ho, ⟨%d, Hout⟩⟩
  ihave Ho := (owes_in m c) $$ Ho
  ihave Hout := (staged_any c _) $$ Hout
  iapply (program m K c) $$ [HK Ha Hi Hk Hst Hcm Ho Hout]
  · isplitl [HK]; · iexact HK
    isplitl [Ha]; · iexact Ha
    isplitl [Hi]; · iexact Hi
    isplitl [Hk]; · iexact Hk
    isplitl [Hst]; · iexact Hst
    isplitl [Hcm]; · iexact Hcm
    isplitl [Hout] <;> iassumption
  iintro ⟨Ha, Hb, Hq, Hst, Hcm, Hout, Ho⟩
  unfold pointPost afterwards
  isplitr [Ho Hout]
  · isplitl [Ha]; · iexact Ha
    isplitl [Hb]; · iexact Hb
    isplitl [Hq]; · iexact Hq
    isplitl [Hst] <;> iassumption
  isplitl [Ho]
  · iapply (owes_out m c); iexact Ho
  · iapply (holds_staged c _); iexact Hout

/-! ## The launch's conditions -/

theorem ownSemFacts : Pipeline.OwnSemFacts cfg0.spec osem := by decide +kernel

theorem share_eq (c : Dev nD) (w : Fin cfg0.W) : (dats m 0 c).share w = fullShare := by unfold Dat.share; split <;> rfl

def u₀ : UU :=
  (initOf (Pipeline.cells cfgs cellOf_inj) (Pipeline.launchToks cfgs cellOf_inj), (initOf allCells allToks, 1))

theorem open_up (c : Dev nD) :
    iprop(Pipeline.unscopedRestP Pipeline.Prefetch.none cfg0.spec c (fun b => m ((c : Thread nD τ).loc b)) ∗ levAts L lv
        ∗ Pipeline.launchCred O₀ c ∗ prngReg c (ρ c) ∗ started m c)
      ⊢ |={Set.univ}=> iprop(opening m c ∗ emp) := by
  rw [Pipeline.unscopedRestP_none, unscopedRest0_eq]
  unfold started records
  iintro ⟨Hin, Hlev, Hcr, -, ⟨%K, HI, HR⟩, Hp⟩
  ihave He := (equipped c) $$ [Hp Hcr]
  · isplitl [Hp] <;> iassumption
  imodintro
  unfold opening inputs known
  isplitl
  · isplitl [HI HR Hlev]
    · iexists K
      isplitl [HI]; · iexact HI
      isplitl [HR] <;> iassumption
    isplitl [Hin]; · iexact Hin
    iexact He
  · iempintro

theorem four_loads (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem enter (c : Dev nD) :
    iprop(opening m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold opening before inputs args waiting any
  rw [four_loads]
  simp only [Memref.view_whole, View.set_whole]
  iintro ⟨⟨HK, ⟨HA, HB, HC, HD⟩, ⟨H0, H1, H2, H3⟩, Hi, Hk⟩, -, Ha, Hb, Hc, Hd, Hst, Hcm⟩
  isplitl [HK]; · iexact HK
  isplitl [HA HB HC HD H0 H1 H2 H3 Ha Hb Hc Hd]
  · isplitl [HA H0 Ha]
    · isplitl [HA]; · iexact HA
      isplitl [Ha] <;> iassumption
    isplitl [HB H1 Hb]
    · isplitl [HB]; · iexact HB
      isplitl [Hb] <;> iassumption
    isplitl [HC H2 Hc]
    · isplitl [HC]; · iexact HC
      isplitl [Hc] <;> iassumption
    isplitl [HD]; · iexact HD
    isplitl [Hd] <;> iassumption
  isplitl [Hi]; · iexact Hi
  isplitl [Hk]; · iexact Hk
  isplitl [Hst] <;> iassumption

theorem leave (c : Dev nD) :
    (dats m 0 c).Φ (Fin.last cfg0.N) ⊢ iprop((unscopedSems0 c ∗ inputs m c) ∗ Pipeline.ownSems0 osem c ∗ Pipeline.scopedRest cfg0.spec c) := by
  rw [show (dats m 0 c).Φ (Fin.last cfg0.N) = afterwards m c from rfl, scopedRest0_eq, own_sems, free_sems, four_loads, by_flag]
  unfold afterwards inputs args waiting any quiet
  simp only [Memref.view_whole, View.set_whole, bigSep_sep']
  iintro ⟨⟨⟨HA, Ha, H0⟩, ⟨HB, Hb, H1⟩, ⟨HC, Hc, H2⟩, HD, Hd, H3⟩, Hbar, ⟨Hs, Hr⟩, Hst, Hcm⟩
  isplitl [Hbar HA HB HC HD]
  · isplitl [Hbar]; · iexact Hbar
    isplitl [HA]; · iexact HA
    isplitl [HB]; · iexact HB
    isplitl [HC] <;> iassumption
  isplitl [H0 H1 H2 H3 Hs Hr]
  · isplitl [H0 H1 H2 H3]
    · isplitl [H0]; · iexact H0
      isplitl [H1]; · iexact H1
      isplitl [H2] <;> iassumption
    · isplitl [Hs] <;> iassumption
  isplitl [Ha]; · iexact Ha
  isplitl [Hb]; · iexact Hb
  isplitl [Hc]; · iexact Hc
  isplitl [Hd]; · iexact Hd
  isplitl [Hst] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w; fin_cases s; decide) _ (by
      rcases t with ⟨_ | _, ht⟩
      · exact Or.inl rfl
      · exact Or.inr rfl)

/-- Device `c`'s arguments in a memory are those of `m`. -/
def kept (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)

theorem look (c : Dev nD) (s' : Phys nD τ sig (Elt F)) :
    iprop((unscopedSems0 c ∗ inputs m c) ∗ emp ∗ SI s')
      ⊢ (|={Set.univ}=> iprop(⌜kept m c s'.mem ∧ ∀ sm : SemLoc sig, sm.isScoped .tc = false → s'.mem.sem ((c.tc : Thread nD τ), sm) = 0⌝ ∗ SI s') : sProp 𝕄) := by
  unfold inputs
  iintro ⟨⟨Hu, HA, HB, HC, HD⟩, -, HSI⟩
  icombine HSI HA gives %hA
  icombine HSI HB gives %hB
  icombine HSI HC gives %hC
  icombine HSI HD gives %hD
  imod (Pipeline.unscopedSems0_read (X := unscopedSems0 c) (c := c) fupd_intro s') $$ [Hu HSI] with ⟨%hs, HSI⟩
  · isplitl [Hu] <;> iassumption
  imodintro
  isplitr
  · ipureintro
    exact ⟨⟨Buf.eq_of_forall_mem_univ hA, Buf.eq_of_forall_mem_univ hB, Buf.eq_of_forall_mem_univ hC, Buf.eq_of_forall_mem_univ hD⟩, hs⟩
  iexact HSI

/-! ## The run -/

/-- The result's array after its one block has been written back. -/
theorem result_array (c : Dev nD) : (dats m 0 c).arrAt (0 : Fin 1) cfg0.N = result m c := by
  have hz : (fun a => (win0_0.index (0 : Fin 1)) a * main_v1.ty.shape.size a) = fun _ => 0 :=
    funext fun a => by fin_cases a <;> decide
  have hr := fun f => Memref.read_access_unit_zero (Elt F) main_v1 hz (fun a => by fin_cases a <;> decide) f
  have ho : (win0_0.blk (0 : Fin 1)).view.read (Elt F) ((dats m 0 c).arrAt (0 : Fin 1) cfg0.N) = result m c := by
    rw [show cfg0.N = ((0 : Fin 1) : Fin cfg0.N).val + 1 from rfl, (dats m 0 c).arrAt_succ (0 : Fin 1) (0 : Fin 1)]
    rw [show (cfg0.win (0 : Fin 1)).flush (0 : Fin 1) = true from by decide, if_pos rfl]
    exact View.read_write_univ _ _
  exact (hr _).symm.trans ho

set_option maxRecDepth 8000 in
/-- For any float values, from any memory with every semaphore at zero: the eight devices' kernel ends, with every device's
    result buffer at `result`, the arguments as they were and every semaphore at zero. -/
theorem run_main : θ_run defs (onTc (τ := τ) (main (F := F))) ⟨m, fun _ => 0, ρ⟩
    (fun r => (∀ c : Dev nD, r.2.mem ((c : Thread nD τ).loc main_v1) = result m c ∧ kept m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w; exact Nat.succ_pos _) (harr := arr_whole0) (hstage := stage_whole0)
    (hshare := share_eq m) (hdistinct := winFacts0.arr_inj)
    (O₀ := O₀) (howed₀ := fun _ => rfl) (howedN := fun _ => rfl)
    (L := L) (lv := lv) (hL := L_of_ne) (hwaits := waits m)
    (G := given m) (G' := started m) (u₀ := u₀)
    (hu₀ := by
      unfold u₀
      iintro Hu
      ihave H := (ownU_pair _ _) $$ Hu
      icases H with ⟨HP, HX⟩
      imod (show BI.own (embR (initOf allCells allToks, (1 : Counters))) ⊢ _ from endow m) $$ HX with HG
      imodintro
      isplitl [HP] <;> iassumption)
    (hglob := set_up m)
    (hA := fun _ _ => rfl) (hpf := fun _ k => k.elim0)
    (X := opening m) (Y := fun c => iprop(unscopedSems0 c ∗ inputs m c)) (Z := fun _ => iprop(emp))
    (hX := open_up m ρ) (hin := enter m) (hout := leave m)
    (QY := fun c s => kept m c s ∧ ∀ sm : SemLoc sig, sm.isScoped .tc = false → s.sem ((c.tc : Thread nD τ), sm) = 0)
    (hY := look m)
    (hQ := fun _ h hs => ⟨fun c => ⟨((h c).1 (0 : Fin 1)).trans (result_array m c), (h c).2.2.1⟩, sem_eq_zero hs fun c => (h c).2.2.2⟩)

end Cert.Butterfly

end
-- ==== Proof.Total.lean ====
/-
Three exchanges make eight devices' sums the sum over all eight.

In a step, a device adds its partner's running sum to its own. Whichever of the three directions a stream starts with,
its three steps use each direction once, so the three partners' numbers span all eight devices.
-/
module

public import proofs.«01_k».proof.Proof.Slots
public import Mathlib.Algebra.BigOperators.Fin
public import Mathlib.Tactic.Abel

@[expose] public section

namespace Cert.Butterfly

open Cert.KernelIdeal
open Idealize.ShloMosaic
open scoped BigOperators

variable {A : Type*} [AddCommMonoid A]

/-- A device's running sum after a number of steps of a stream. -/
def running (s : Fin 3) (f : Dev nD → A) : ℕ → Dev nD → A
  | 0, c => f c
  | r + 1, c => running s f r c + running s f r (peer (dir (s, Fin.ofNat 3 r)) c)

/-- The device reached from `c` by the partners a number's three bits choose. -/
def reached (s : Fin 3) (c : Dev nD) (i : Fin 8) : Dev nD :=
  (if i.val / 4 % 2 = 1 then peer (dir (s, 0)) else id)
    ((if i.val / 2 % 2 = 1 then peer (dir (s, 1)) else id) ((if i.val % 2 = 1 then peer (dir (s, 2)) else id) c))

/-- Each device is reached in one way. -/
theorem reached_bijective (s : Fin 3) (c : Dev nD) : Function.Bijective (reached s c) :=
  Finite.injective_iff_bijective.mp (by revert s c; decide)

/-- After its three steps every device has the sum over all devices. -/
theorem running_total (s : Fin 3) (f : Dev nD → A) (c : Dev nD) : running s f 3 c = ∑ d : Dev nD, f d := by
  rw [← (reached_bijective s c).sum_comp f, Fin.sum_univ_eight]
  simp [running, reached, Fin.ofNat]
  abel

end Cert.Butterfly
-- ==== Proof.Sums.lean ====
/-
What the exchanges leave, over the extended reals: on every device, entry by entry, the sum of the eight partial
products.
-/
module

public import proofs.«01_k».proof.Proof.Contents
public import proofs.«01_k».proof.Proof.Total
public import Idealize.ShloMosaic.PureOps.Ideal

@[expose] public section

noncomputable section

namespace Cert.Butterfly

open Cert.KernelIdeal Cert.KernelIdeal.Gen
open Idealize.ShloMosaic Idealize.ShloMosaic.TcCoe Idealize.SL.Sem
open scoped BigOperators

/-- Laying an array out as another shape and back changes nothing. -/
theorem recast {s t : Shape} {α : Type} (v : s.Idx → α) (h : s.ShapeCasts t) (h' : t.ShapeCasts s) :
    shapeCast s (shapeCast t v h) h' = v :=
  funext fun i => congrArg v ((Shape.reshapeEquiv_reshapeEquiv h h' i).trans (Shape.reshapeEquiv_self _ i))

/-- A sum with a block that was laid out as another shape and back. -/
theorem add_recast {s t : Shape} (a b : s.Idx → EReal) (h₀ h₁ : s.ShapeCasts s) (h : s.ShapeCasts t) (h' : t.ShapeCasts s)
    (j : s.Idx) : shapeCast s a h₀ j + shapeCast s (shapeCast t (shapeCast s b h₁) h) h' j = a j + b j := by
  rw [recast, shapeCast_self, shapeCast_self]

/-- Adding an arrived block adds the sender's running sum: over the extended reals rounding is the identity. -/
theorem merge_pack (s : Fin 3) (a b : Vec Ideal (chunkSh s) .f32) (j : (chunkSh s).Idx) :
    merge s a (pack s b) j = (a j + b j : EReal) := by
  match s with
  | 0 => exact add_recast (s := S96x256) (t := S1x1x96x256) a b _ _ _ _ j
  | 1 => exact add_recast (s := S80x256) (t := S1x1x80x256) a b _ _ _ _ j
  | 2 => exact add_recast (s := S80x256) (t := S1x1x80x256) a b _ _ _ _ j

variable (m : (ℓ : Loc nD τ sig) → Buf (Elt Ideal) ℓ)

/-- An entry of a running sum is the running sum of the entries. -/
theorem acc_running (s : Fin 3) (j : (chunkSh s).Idx) (r : ℕ) (c : Dev nD) :
    acc m s r c j = running s (fun d => (part0 m d ((chunkRect s).emb j) : EReal)) r c := by
  induction r generalizing c with
  | zero => rfl
  | succ r ih =>
    show merge s (acc m s r c) (pack s (acc m s r (peer (dir (s, Fin.ofNat 3 r)) c))) j = _
    rw [merge_pack, ih, ih]
    rfl

/-- The result on any device: the sum over all devices of their partial products. -/
theorem result_sum (c : Dev nD) (i : S256x256.Idx) : result m c i = ∑ d : Dev nD, (part0 m d i : EReal) := by
  show acc m (streamOf (i 0).val) 3 c (posIn i) = _
  rw [acc_running, running_total, emb_posIn]

end Cert.Butterfly
-- ==== Proof.Whole.lean ====
/-
The run of the reference: one device, the whole matrices, ten operations in a row.

A run ends with the result's buffer holding `whole` of the four arguments, the arguments' buffers as they were, and —
as there are no semaphores at all — every counter at zero.
-/
module

public import proofs.«01_k».proof.Proof.Gen.ReferenceIdeal
public import Idealize.ShloMosaic.Lib.StableHlo.Run
public import Idealize.ShloMosaic.Lib.Quiescent

@[expose] public section

noncomputable section

namespace Cert.Butterfly.Whole

open Cert.ReferenceIdeal Cert.ReferenceIdeal.Gen
open Idealize.ShloMosaic Idealize.ShloMosaic.TcCoe Idealize.ShloMosaic.StableHlo Idealize.SL.Sem

variable {F : FTy → Type} [FloatOps F]

/-- The input times one of the two wide weights. -/
def widen (x : FVec F S256x256 .f32) (w : FVec F S256x4096 .f32) : FVec F S256x4096 .f32 :=
  Host.dotGeneral dot_S256x256_S256x4096_S256x4096_1_0_0_1_n_n none x w

/-- One in every entry. -/
def ones : FVec F S256x4096 .f32 :=
  broadcastInDim S256x4096 ![] bcast_S_S256x4096 (constant S_ .f32 0x3F800000#32)

/-- The gated activation: `g · u / (1 + exp (-u))`. -/
def gated (g u : FVec F S256x4096 .f32) : FVec F S256x4096 .f32 :=
  mulf g (Host.divf u (addf ones (Host.exp (Host.negf u))))

/-- What the reference computes from its four arguments. -/
def whole (x : FVec F S256x256 .f32) (wg wu : FVec F S256x4096 .f32) (wd : FVec F S4096x256 .f32) : FVec F S256x256 .f32 :=
  Host.dotGeneral dot_S256x4096_S4096x256_S256x256_1_0_0_1_n_n none (gated (widen x wg) (widen x wu)) wd

/-- The program as the list of its operations. -/
abbrev line : List (HloOp τ sig (Elt F)) :=
  [ binary main_arg0 main_arg1 main_v0 (Host.dotGeneral dot_S256x256_S256x4096_S256x4096_1_0_0_1_n_n none),
    binary main_arg0 main_arg2 main_v1 (Host.dotGeneral dot_S256x256_S256x4096_S256x4096_1_0_0_1_n_n none),
    unary main_v1 main_v2 Host.negf,
    unary main_v2 main_v3 Host.exp,
    nullary main_cst (constant S_ .f32 0x3F800000#32),
    unary main_cst main_v4 (broadcastInDim S256x4096 ![] bcast_S_S256x4096),
    binary main_v4 main_v3 main_v5 addf,
    binary main_v1 main_v5 main_v6 Host.divf,
    binary main_v0 main_v6 main_v7 mulf,
    binary main_v7 main_arg3 main_v8 (Host.dotGeneral dot_S256x4096_S4096x256_S256x256_1_0_0_1_n_n none) ]

theorem main_line (c : Dev nD) : main (F := F) c = seq line := rfl

theorem line_tc : (line : List (HloOp τ sig (Elt F))).Forall fun op => op.bufs ⊆ tcRefs τ sig :=
  ⟨binary_bufs_sub .., binary_bufs_sub .., unary_bufs_sub .., unary_bufs_sub .., nullary_bufs_sub .., unary_bufs_sub ..,
    binary_bufs_sub .., binary_bufs_sub .., binary_bufs_sub .., binary_bufs_sub ..⟩

section Ends
variable (V : Valuation τ sig (Elt F))

/-- The operations leave the result's buffer at `whole`. -/
theorem line_result : after line V (main_v8 : DevRef τ sig)
    = whole (V (main_arg0 : DevRef τ sig)) (V (main_arg1 : DevRef τ sig)) (V (main_arg2 : DevRef τ sig)) (V (main_arg3 : DevRef τ sig)) := by
  after_results
  rfl

/-- They write none of the arguments. -/
theorem line_args : after line V (main_arg0 : DevRef τ sig) = V (main_arg0 : DevRef τ sig)
    ∧ after line V (main_arg1 : DevRef τ sig) = V (main_arg1 : DevRef τ sig)
    ∧ after line V (main_arg2 : DevRef τ sig) = V (main_arg2 : DevRef τ sig)
    ∧ after line V (main_arg3 : DevRef τ sig) = V (main_arg3 : DevRef τ sig) := by
  refine ⟨?_, ?_, ?_, ?_⟩ <;> after_results

end Ends

/-- From any memory with counters at zero, every fair run ends with `whole` in the result, the arguments kept and the
    counters at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c : Thread nD τ).loc main_v8)
            = whole (m ((c : Thread nD τ).loc main_arg0)) (m ((c : Thread nD τ).loc main_arg1))
                (m ((c : Thread nD τ).loc main_arg2)) (m ((c : Thread nD τ).loc main_arg3))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3))
      ∧ r.2.sem = fun _ => 0 := by
  refine (θ_run defs _ _).mono (fun r h => ⟨fun c => ?_, sem_eq_zero_of_no_sems (by decide) r.2⟩)
    (run_seq (by decide) (by decide) defs main (fun _ => line) main_line (fun _ => line_tc) m ρ)
  obtain ⟨h0, h1, h2, h3⟩ := line_args (launchContents m c)
  exact ⟨(h c main_v8).trans (line_result _), (h c main_arg0).trans h0, (h c main_arg1).trans h1,
    (h c main_arg2).trans h2, (h c main_arg3).trans h3⟩

end Cert.Butterfly.Whole
-- ==== Proof.Entries.lean ====
/-
The entries of the two programs' products, over the extended reals.

Both programs are written as one formula with the number of hidden columns left open: a device has 512 of them, the
reference has 4096.
-/
module

public import proofs.«01_k».proof.Proof.Gen.KernelIdeal.Skeleton
public import proofs.«01_k».proof.Proof.Whole
public import Idealize.ShloMosaic.PureOps.Ideal
public import Idealize.ShloMosaic.PureOps.Ideal.Laws
public import Idealize.ShloMosaic.Lib.IdealHost
public import Idealize.ShloMosaic.Lib.KernelVsHost
public import Idealize.ShloMosaic.Lib.StackMember

@[expose] public section

noncomputable section

namespace Cert.Butterfly

open Idealize.ShloMosaic Idealize.ShloMosaic.ValueIdx Idealize.ShloMosaic.StackMember
open scoped BigOperators

/-! ## The activation -/

/-- A number times its logistic. -/
def swish (u : EReal) : EReal := u * Ideal.logistic u

theorem exp_nonneg (u : EReal) : 0 ≤ Ideal.exp u := by
  induction u using EReal.rec with
  | bot => simp
  | top => simp
  | coe r => rw [Ideal.exp_coe]; exact EReal.coe_nonneg.mpr (Real.exp_pos r).le

/-- The quotient the reference forms is the same number. -/
theorem quotient_swish (u : EReal) : Ideal.div u (1 + Ideal.exp (-u)) = swish u := by
  have h : (1 : EReal) + Ideal.exp (-u) ≠ 0 := fun e => by
    have h1 : (1 : EReal) ≤ 1 + Ideal.exp (-u) := le_add_of_nonneg_right (exp_nonneg _)
    rw [e] at h1
    exact absurd h1 (by simp)
  exact (Ideal.mul_one_div h).symm

/-! ## The gated product -/

/-- A hidden entry: row `i` of the input against column `k` of the two wide weights. -/
def hidden {n : ℕ} (x : (⟨2, ![256, 256]⟩ : Shape).Idx → EReal) (wg wu : (⟨2, ![256, n]⟩ : Shape).Idx → EReal)
    (i : Fin 256) (k : Fin n) : EReal :=
  (∑ l : Fin 256, x (ix2 i l) * wg (ix2 l k)) * swish (∑ l : Fin 256, x (ix2 i l) * wu (ix2 l k))

/-- An entry of what a device computes before any exchange. -/
theorem part_entry (x : FVec Ideal Cert.KernelIdeal.S256x256 .f32) (wg wu : FVec Ideal Cert.KernelIdeal.S256x512 .f32)
    (wd : FVec Ideal Cert.KernelIdeal.S512x256 .f32) (i j : Fin 256) :
    Cert.KernelIdeal.Gen.k0_pay2 (F := Ideal) x wg wu wd (ix2 i j) = ∑ k : Fin 512, hidden x wg wu i k * wd (ix2 k j) := by
  unfold Cert.KernelIdeal.Gen.k0_pay2
  simp only [matmul_zero_eq_dotGeneral]
  refine (dotGeneral_plain_apply none _ wd i j).trans (Finset.sum_congr rfl fun k _ => ?_)
  have hg := dotGeneral_plain_apply none x wg i k
  have hu := dotGeneral_plain_apply none x wu i k
  exact congrArg₂ (fun a b => (a * swish b) * wd (ix2 k j)) hg hu

/-- An entry of what the reference computes. -/
theorem whole_entry (x : FVec Ideal Cert.ReferenceIdeal.S256x256 .f32) (wg wu : FVec Ideal Cert.ReferenceIdeal.S256x4096 .f32)
    (wd : FVec Ideal Cert.ReferenceIdeal.S4096x256 .f32) (i j : Fin 256) :
    Whole.whole (F := Ideal) x wg wu wd (ix2 i j) = ∑ k : Fin 4096, hidden x wg wu i k * wd (ix2 k j) := by
  unfold Whole.whole
  refine (dotGeneral_plain_apply none _ wd i j).trans (Finset.sum_congr rfl fun k _ => ?_)
  have hg : Whole.widen x wg (ix2 i k) = _ := dotGeneral_plain_apply none x wg i k
  have hu : Whole.widen x wu (ix2 i k) = _ := dotGeneral_plain_apply none x wu i k
  have h1 : Whole.ones (F := Ideal) (ix2 i k) = (1 : EReal) := by
    unfold Whole.ones
    rw [broadcastInDim_scalar_apply]
    exact Ideal.ofBits_one_f32
  have ha : Whole.gated (Whole.widen x wg) (Whole.widen x wu) (ix2 i k)
      = Whole.widen x wg (ix2 i k) * Ideal.div (Whole.widen x wu (ix2 i k))
          (Whole.ones (F := Ideal) (ix2 i k) + Ideal.exp (-(Whole.widen x wu (ix2 i k)))) := rfl
  rw [ha, h1, quotient_swish, hg, hu]
  rfl

end Cert.Butterfly
-- ==== Proof.Blocks.lean ====
/-
The reference's result is the sum of the devices' partial products.

The hidden columns are dealt out in eight runs of 512: device `c` has columns `512 c` to `512 c + 511` of the two wide
weights and those rows of the third.
-/
module

public import proofs.«01_k».proof.Proof.Entries
public import Idealize.ShloMosaic.Lib.Layout
public import Mathlib.Logic.Equiv.Fin.Basic

@[expose] public section

noncomputable section

namespace Cert.Butterfly

open Idealize.ShloMosaic Idealize.ShloMosaic.ValueIdx
open scoped BigOperators

set_option backward.proofsInPublic true in
/-- The place among all hidden columns of device `c`'s column `k`. -/
def column (c : Fin 8) (k : Fin 512) : Fin 4096 := ⟨c.val * 512 + k.val, by omega⟩

/-- A sum over all hidden columns, device by device. -/
theorem sum_columns {A : Type*} [AddCommMonoid A] (f : Fin 4096 → A) :
    ∑ k : Fin 4096, f k = ∑ c : Fin 8, ∑ k : Fin 512, f (column c k) := by
  rw [← Fintype.sum_prod_type', ← (finProdFinEquiv (m := 8) (n := 512)).sum_comp]
  refine Finset.sum_congr rfl fun p _ => congrArg f (Fin.ext ?_)
  show p.2.val + 512 * p.1.val = p.1.val * 512 + p.2.val
  omega

/-- A device's share of a wide weight, and of the third weight. -/
abbrev colsOf (c : Fin 8) (w : (⟨2, ![256, 4096]⟩ : Shape).Idx → EReal) : (⟨2, ![256, 512]⟩ : Shape).Idx → EReal :=
  Layout.block ⟨2, ![256, 512]⟩ ⟨2, ![256, 4096]⟩ 1 8 c w
abbrev rowsOfWeight (c : Fin 8) (w : (⟨2, ![4096, 256]⟩ : Shape).Idx → EReal) : (⟨2, ![512, 256]⟩ : Shape).Idx → EReal :=
  Layout.block ⟨2, ![512, 256]⟩ ⟨2, ![4096, 256]⟩ 0 8 c w

theorem colsOf_entry (c : Fin 8) (w : (⟨2, ![256, 4096]⟩ : Shape).Idx → EReal) (l : Fin 256) (k : Fin 512) :
    colsOf c w (ix2 l k) = w (ix2 l (column c k)) := by
  refine congrArg w (funext fun a => Fin.ext ?_)
  match a with
  | ⟨0, _⟩ => rfl
  | ⟨1, _⟩ => rfl

theorem rowsOfWeight_entry (c : Fin 8) (w : (⟨2, ![4096, 256]⟩ : Shape).Idx → EReal) (k : Fin 512) (j : Fin 256) :
    rowsOfWeight c w (ix2 k j) = w (ix2 (column c k) j) := by
  refine congrArg w (funext fun a => Fin.ext ?_)
  match a with
  | ⟨0, _⟩ => rfl
  | ⟨1, _⟩ => rfl

/-- The reference's result, entry by entry, is the sum of the devices' partial products. -/
theorem whole_parts (x : FVec Ideal Cert.ReferenceIdeal.S256x256 .f32) (wg wu : FVec Ideal Cert.ReferenceIdeal.S256x4096 .f32)
    (wd : FVec Ideal Cert.ReferenceIdeal.S4096x256 .f32) (i : Cert.ReferenceIdeal.S256x256.Idx) :
    Whole.whole (F := Ideal) x wg wu wd i
      = ∑ c : Fin 8, (Cert.KernelIdeal.Gen.k0_pay2 (F := Ideal) x (colsOf c wg) (colsOf c wu) (rowsOfWeight c wd) i : EReal) := by
  obtain ⟨a, b, rfl⟩ : ∃ (a b : Fin 256), i = ix2 a b := ⟨i 0, i 1, eq_ix2 i⟩
  rw [whole_entry, sum_columns]
  refine Finset.sum_congr rfl fun c _ => ?_
  rw [part_entry]
  refine Finset.sum_congr rfl fun k _ => ?_
  unfold hidden
  simp only [colsOf_entry, rowsOfWeight_entry]

end Cert.Butterfly
-- ==== Proof.lean ====
/-
The certificate: the kernel, its ideal version and the reference each end with their arguments and their semaphores as
they were at the start; the ideal version is the kernel, nothing rewritten; and over the extended reals every device's
result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Launch
public import proofs.«01_k».proof.Proof.Sums
public import proofs.«01_k».proof.Proof.Blocks

@[expose] public section

noncomputable section

namespace Cert.Proof

open Idealize.ShloMosaic Idealize.ShloMosaic.TcCoe Idealize.SL.Sem
open Cert.Butterfly

/-- The kernel and its ideal version have the same body, -/
theorem same_body : Cert.Kernel.defs₀ (F := Bits) = Cert.KernelIdeal.defs₀ (F := Bits) := by
  funext p l a
  cases p with
  | tc => match l, a with | ⟨0, _⟩, (_, _) => rfl
  | scScalar _ => rfl
  | scVector _ _ => rfl

/-- and so the same functions. -/
theorem same_defs : Cert.Kernel.defs (F := Bits) = Cert.KernelIdeal.defs (F := Bits) :=
  congrArg (Pipeline.defs (Cert.KernelIdeal.pcfgs (F := Bits))) same_body

/-- The kernel ends with its arguments kept and its semaphores at zero: its run is the ideal version's, at bit patterns. -/
theorem frame_kernel : Cert.quiescent_Kernel := fun m ρ _ => by
  rw [same_defs]
  exact (θ_run Cert.KernelIdeal.defs _ _).mono (fun _ h => ⟨fun c => (h.1 c).2, h.2⟩) (run_main (F := Bits) m ρ)

/-- So does its ideal version. -/
theorem frame_ideal : Cert.quiescent_KernelIdeal := fun m ρ _ =>
  (θ_run Cert.KernelIdeal.defs _ _).mono (fun _ h => ⟨fun c => (h.1 c).2, h.2⟩) (run_main m ρ)

/-- So does the reference. -/
theorem frame_reference : Cert.quiescent_ReferenceIdeal := fun m ρ _ =>
  (θ_run Cert.ReferenceIdeal.defs _ _).mono (fun _ h => ⟨fun c => (h.1 c).2, h.2⟩) (Whole.run_main m ρ)

/-- Devices that start with their shares of the weights end with the reference's result. -/
theorem result_whole (m : (ℓ : Loc Cert.KernelIdeal.nD Cert.KernelIdeal.τ Cert.KernelIdeal.sig) → Buf (Elt Ideal) ℓ)
    (x : FVec Ideal Cert.ReferenceIdeal.S256x256 .f32) (wg wu : FVec Ideal Cert.ReferenceIdeal.S256x4096 .f32)
    (wd : FVec Ideal Cert.ReferenceIdeal.S4096x256 .f32)
    (h : ∀ c : Dev Cert.KernelIdeal.nD,
      m ((c : Thread Cert.KernelIdeal.nD Cert.KernelIdeal.τ).loc Cert.KernelIdeal.main_arg0) = x
      ∧ m ((c : Thread Cert.KernelIdeal.nD Cert.KernelIdeal.τ).loc Cert.KernelIdeal.main_arg1) = colsOf c wg
      ∧ m ((c : Thread Cert.KernelIdeal.nD Cert.KernelIdeal.τ).loc Cert.KernelIdeal.main_arg2) = colsOf c wu
      ∧ m ((c : Thread Cert.KernelIdeal.nD Cert.KernelIdeal.τ).loc Cert.KernelIdeal.main_arg3) = rowsOfWeight c wd)
    (c : Dev Cert.KernelIdeal.nD) : result m c = Whole.whole (F := Ideal) x wg wu wd := by
  funext i
  refine (result_sum m c i).trans (Eq.trans (Finset.sum_congr rfl fun d _ => ?_) (whole_parts x wg wu wd i).symm)
  obtain ⟨h0, h1, h2, h3⟩ := h d
  unfold part0
  rw [h0, h1, h2, h3]

/-- Over the extended reals the two programs have one result. -/
theorem same_result : Cert.algebraic_KernelIdeal_ReferenceIdeal := fun m ρ m' ρ' _ h =>
  ⟨_, (θ_run Cert.KernelIdeal.defs _ _).mono
      (fun _ e c => ⟨(e.1 c).1.trans (result_whole m _ _ _ _ h c), (e.1 c).2⟩) (run_main (F := Ideal) m ρ),
    (θ_run Cert.ReferenceIdeal.defs _ _).mono (fun _ e => e.1 0) (Whole.run_main (F := Ideal) m' ρ')⟩

theorem claim : Cert.Claim := ⟨Cert.Kernel.Gen.facts, Cert.KernelIdeal.Gen.facts, Cert.ReferenceIdeal.Gen.facts,
  frame_kernel, frame_ideal, frame_reference, trivial, same_result⟩

end Cert.Proof

end
